-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_features [hPre_finite_features : Cert.Pre_finite_features.Facts] (m : (ℓ : Loc Cert.KernelIdeal.nD Cert.KernelIdeal.τ Cert.KernelIdeal.sig) → Buf (Elt Ideal) ℓ) : Prop :=
  ∀ c : Dev Cert.KernelIdeal.nD,
    (Cert.Pre_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_features [hPre_finite_features : Cert.Pre_finite_features.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_features [hKernelIdeal : Cert.KernelIdeal.Facts] [hPre_finite_features : Cert.Pre_finite_features.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_features m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_features [hReferenceIdeal : Cert.ReferenceIdeal.Facts] [hPre_finite_features : Cert.Pre_finite_features.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_features m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_features [hKernelIdeal : Cert.KernelIdeal.Facts] [hReferenceIdeal : Cert.ReferenceIdeal.Facts] [hPre_finite_features : Cert.Pre_finite_features.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_features m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_segments : Cert.Pre_sorted_segments.Facts) (hPre_finite_features : Cert.Pre_finite_features.Facts),
    quiescent_Kernel (hKernel := hKernel) (hPre_sorted_segments := hPre_sorted_segments)
    ∧ quiescent_KernelIdeal (hKernelIdeal := hKernelIdeal) (hPre_sorted_segments := hPre_sorted_segments)
    ∧ quiescent_KernelIdeal_pre_finite_features (hKernelIdeal := hKernelIdeal) (hPre_finite_features := hPre_finite_features)
    ∧ quiescent_ReferenceIdeal (hReferenceIdeal := hReferenceIdeal)
    ∧ quiescent_ReferenceIdeal_pre_finite_features (hReferenceIdeal := hReferenceIdeal) (hPre_finite_features := hPre_finite_features)
    ∧ preserves_Kernel_KernelIdeal
    ∧ algebraic_KernelIdeal_ReferenceIdeal_pre_finite_features (hKernelIdeal := hKernelIdeal) (hReferenceIdeal := hReferenceIdeal) (hPre_finite_features := hPre_finite_features)
-- ==== Pre_finite_features.lean ====
abbrev S50000x512 : Shape := ⟨2, ![50000, 512]⟩
abbrev S50000 : Shape := ⟨1, ![50000]⟩
abbrev S2048x1024 : Shape := ⟨2, ![2048, 1024]⟩
abbrev S2048x512 : Shape := ⟨2, ![2048, 512]⟩
abbrev S2048 : Shape := ⟨1, ![2048]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_
  bcast_S_S50000x512 : S_.BroadcastsInDim S50000x512 (![] : Fin 0 → Fin S50000x512.rank)
  reducesTo_S50000x512_S_d0_1 : S50000x512.ReducesTo [0, 1] S_

variable [Facts]

def fn {F : FTy → Type} [FloatOps F] (main_arg0 : FVec F S50000x512 .f32) (main_arg1 : IVec S50000 32) (main_arg2 : FVec F S2048x1024 .f32) (main_arg3 : FVec F S2048x512 .f32) (main_arg4 : FVec F S2048 .f32) (main_arg5 : FVec F S2048 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 1 := constantI S_ 1 1#1
  let main_v2 : IVec S_ 1 := (fun x v => Host.reduce IntOp.andi x v reducesTo_S50000_S_d0 h_S_) main_v1 main_c_0
  let main_c_1 : IVec S_ 32 := constantI S_ 32 64#32
  let main_v3 : IVec S50000 32 := broadcastInDim S50000 ![] bcast_S_S50000 main_c_1
  let main_v4 : IVec S50000 1 := cmpi .slt main_arg1 main_v3
  let main_c_2 : IVec S_ 1 := constantI S_ 1 1#1
  let main_v5 : IVec S_ 1 := (fun x v => Host.reduce IntOp.andi x v reducesTo_S50000_S_d0 h_S_) main_v4 main_c_2
  let main_v6 : IVec S_ 1 := andi main_v2 main_v5
  let main_v7 : IVec S49999 32 := (extractStridedSlice S49999 ![0] · slices_S50000_S49999_0) main_arg1
  let main_v8 : IVec S49999 32 := (extractStridedSlice S49999 ![1] · slices_S50000_S49999_1) main_arg1
  let main_v9 : IVec S49999 1 := cmpi .sle main_v7 main_v8
  let main_c_3 : IVec S_ 1 := constantI S_ 1 1#1
  let main_v10 : IVec S_ 1 := (fun x v => Host.reduce IntOp.andi x v reducesTo_S49999_S_d0 h_S_) main_v9 main_c_3
  let main_v11 : IVec S_ 1 := andi main_v6 main_v10
  let main_v12 : FVec F S50000x512 .f32 := Host.absf main_arg0
  let main_cst : FVec F S_ .f32 := constant S_ .f32 0x7F800000#32
  let main_v13 : FVec F S50000x512 .f32 := broadcastInDim S50000x512 ![] bcast_S_S50000x512 main_cst
  let main_v14 : IVec S50000x512 1 := cmpf .olt main_v12 main_v13
  let main_c_4 : IVec S_ 1 := constantI S_ 1 1#1
  let main_v15 : IVec S_ 1 := (fun x v => Host.reduce IntOp.andi x v reducesTo_S50000x512_S_d0_1 h_S_) main_v14 main_c_4
  let main_v16 : IVec S_ 1 := andi main_v11 main_v15
  main_v16
-- ==== Pre_sorted_segments.lean ====
abbrev S50000x512 : Shape := ⟨2, ![50000, 512]⟩
abbrev S50000 : Shape := ⟨1, ![50000]⟩
abbrev S2048x1024 : Shape := ⟨2, ![2048, 1024]⟩
abbrev S2048x512 : Shape := ⟨2, ![2048, 512]⟩
abbrev S2048 : Shape := ⟨1, ![2048]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_

variable [Facts]

def fn {F : FTy → Type} [FloatOps F] (main_arg0 : FVec F S50000x512 .f32) (main_arg1 : IVec S50000 32) (main_arg2 : FVec F S2048x1024 .f32) (main_arg3 : FVec F S2048x512 .f32) (main_arg4 : FVec F S2048 .f32) (main_arg5 : FVec F S2048 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 1 := constantI S_ 1 1#1
  let main_v2 : IVec S_ 1 := (fun x v => Host.reduce IntOp.andi x v reducesTo_S50000_S_d0 h_S_) main_v1 main_c_0
  let main_c_1 : IVec S_ 32 := constantI S_ 32 64#32
  let main_v3 : IVec S50000 32 := broadcastInDim S50000 ![] bcast_S_S50000 main_c_1
  let main_v4 : IVec S50000 1 := cmpi .slt main_arg1 main_v3
  let main_c_2 : IVec S_ 1 := constantI S_ 1 1#1
  let main_v5 : IVec S_ 1 := (fun x v => Host.reduce IntOp.andi x v reducesTo_S50000_S_d0 h_S_) main_v4 main_c_2
  let main_v6 : IVec S_ 1 := andi main_v2 main_v5
  let main_v7 : IVec S49999 32 := (extractStridedSlice S49999 ![0] · slices_S50000_S49999_0) main_arg1
  let main_v8 : IVec S49999 32 := (extractStridedSlice S49999 ![1] · slices_S50000_S49999_1) main_arg1
  let main_v9 : IVec S49999 1 := cmpi .sle main_v7 main_v8
  let main_c_3 : IVec S_ 1 := constantI S_ 1 1#1
  let main_v10 : IVec S_ 1 := (fun x v => Host.reduce IntOp.andi x v reducesTo_S49999_S_d0 h_S_) main_v9 main_c_3
  let main_v11 : IVec S_ 1 := andi main_v6 main_v10
  main_v11
-- ==== Kernel.lean ====
abbrev S50000x512 : Shape := ⟨2, ![50000, 512]⟩
abbrev S50000 : Shape := ⟨1, ![50000]⟩
abbrev S2048x1024 : Shape := ⟨2, ![2048, 1024]⟩
abbrev S2048x512 : Shape := ⟨2, ![2048, 512]⟩
abbrev S2048 : Shape := ⟨1, ![2048]⟩
abbrev S_ : Shape := ⟨0, ![]⟩
abbrev S3248 : Shape := ⟨1, ![3248]⟩
abbrev S53248 : Shape := ⟨1, ![53248]⟩
abbrev S13x1x4096 : Shape := ⟨3, ![13, 1, 4096]⟩
abbrev S13 : Shape := ⟨1, ![13]⟩
abbrev S13x1 : Shape := ⟨2, ![13, 1]⟩
abbrev S13x2 : Shape := ⟨2, ![13, 2]⟩
abbrev S13x1x2 : Shape := ⟨3, ![13, 1, 2]⟩
abbrev S1x2048 : Shape := ⟨2, ![1, 2048]⟩
abbrev S64x1024 : Shape := ⟨2, ![64, 1024]⟩
abbrev S4096x512 : Shape := ⟨2, ![4096, 512]⟩
abbrev S1x1x4096 : Shape := ⟨3, ![1, 1, 4096]⟩
abbrev S1x1x2 : Shape := ⟨3, ![1, 1, 2]⟩
abbrev S64x512 : Shape := ⟨2, ![64, 512]⟩
abbrev S64x1 : Shape := ⟨2, ![64, 1]⟩
abbrev S64x2048 : Shape := ⟨2, ![64, 2048]⟩
abbrev S1x4096 : Shape := ⟨2, ![1, 4096]⟩
abbrev S4096x1 : Shape := ⟨2, ![4096, 1]⟩
abbrev S1x1x1 : Shape := ⟨3, ![1, 1, 1]⟩
abbrev S16x512 : Shape := ⟨2, ![16, 512]⟩
abbrev S16x2048 : Shape := ⟨2, ![16, 2048]⟩
abbrev S16 : Shape := ⟨1, ![16]⟩
abbrev S16x1 : Shape := ⟨2, ![16, 1]⟩
abbrev S64 : Shape := ⟨1, ![64]⟩

abbrev nBuf : Space → Nat
  | .hbm => 48
  | .vmem => 13
  | .smem => 2
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S2048x1024, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S_, .i32⟩
  | .hbm, ⟨7, _⟩ => ⟨S3248, .i32⟩
  | .hbm, ⟨8, _⟩ => ⟨S53248, .i32⟩
  | .hbm, ⟨9, _⟩ => ⟨S13x1x4096, .i32⟩
  | .hbm, ⟨10, _⟩ => ⟨S13, .i32⟩
  | .hbm, ⟨11, _⟩ => ⟨S_, .i32⟩
  | .hbm, ⟨12, _⟩ => ⟨S13, .i32⟩
  | .hbm, ⟨13, _⟩ => ⟨S13, .i32⟩
  | .hbm, ⟨14, _⟩ => ⟨S_, .i32⟩
  | .hbm, ⟨15, _⟩ => ⟨S13, .i32⟩
  | .hbm, ⟨16, _⟩ => ⟨S13, .i32⟩
  | .hbm, ⟨17, _⟩ => ⟨S_, .i32⟩
  | .hbm, ⟨18, _⟩ => ⟨S13, .i32⟩
  | .hbm, ⟨19, _⟩ => ⟨S13, .i32⟩
  | .hbm, ⟨20, _⟩ => ⟨S_, .i32⟩
  | .hbm, ⟨21, _⟩ => ⟨S13, .i32⟩
  | .hbm, ⟨22, _⟩ => ⟨S13, .i32⟩
  | .hbm, ⟨23, _⟩ => ⟨S_, .i32⟩
  | .hbm, ⟨24, _⟩ => ⟨S13, .i32⟩
  | .hbm, ⟨25, _⟩ => ⟨S13, .i1⟩
  | .hbm, ⟨26, _⟩ => ⟨S_, .i32⟩
  | .hbm, ⟨27, _⟩ => ⟨S13, .i32⟩
  | .hbm, ⟨28, _⟩ => ⟨S13, .i32⟩
  | .hbm, ⟨29, _⟩ => ⟨S13, .i32⟩
  | .hbm, ⟨30, _⟩ => ⟨S13x1, .i32⟩
  | .hbm, ⟨31, _⟩ => ⟨S13, .i32⟩
  | .hbm, ⟨32, _⟩ => ⟨S_, .i32⟩
  | .hbm, ⟨33, _⟩ => ⟨S13, .i32⟩
  | .hbm, ⟨34, _⟩ => ⟨S13, .i1⟩
  | .hbm, ⟨35, _⟩ => ⟨S_, .i32⟩
  | .hbm, ⟨36, _⟩ => ⟨S13, .i32⟩
  | .hbm, ⟨37, _⟩ => ⟨S13, .i32⟩
  | .hbm, ⟨38, _⟩ => ⟨S13, .i32⟩
  | .hbm, ⟨39, _⟩ => ⟨S13x1, .i32⟩
  | .hbm, ⟨40, _⟩ => ⟨S13, .i32⟩
  | .hbm, ⟨41, _⟩ => ⟨S13x1, .i32⟩
  | .hbm, ⟨42, _⟩ => ⟨S13x1, .i32⟩
  | .hbm, ⟨43, _⟩ => ⟨S13x2, .i32⟩
  | .hbm, ⟨44, _⟩ => ⟨S13x1x2, .i32⟩
  | .hbm, ⟨45, _⟩ => ⟨S2048, .f32⟩
  | .hbm, ⟨46, _⟩ => ⟨S1x2048, .f32⟩
  | .hbm, ⟨47, _⟩ => ⟨S64x1024, .f32⟩
  | .local _ .vmem, ⟨0, _⟩ => ⟨S4096x512, .f32⟩
  | .local _ .vmem, ⟨1, _⟩ => ⟨S4096x512, .f32⟩
  | .local _ .vmem, ⟨2, _⟩ => ⟨S1x1x4096, .i32⟩
  | .local _ .vmem, ⟨3, _⟩ => ⟨S1x1x4096, .i32⟩
  | .local _ .vmem, ⟨4, _⟩ => ⟨S2048x1024, .f32⟩
  | .local _ .vmem, ⟨5, _⟩ => ⟨S2048x512, .f32⟩
  | .local _ .vmem, ⟨6, _⟩ => ⟨S1x2048, .f32⟩
  | .local _ .vmem, ⟨7, _⟩ => ⟨S64x1024, .f32⟩
  | .local _ .vmem, ⟨8, _⟩ => ⟨S64x512, .f32⟩
  | .local _ .vmem, ⟨9, _⟩ => ⟨S64x512, .f32⟩
  | .local _ .vmem, ⟨10, _⟩ => ⟨S64x1, .f32⟩
  | .local _ .vmem, ⟨11, _⟩ => ⟨S64x1, .f32⟩
  | .local _ .vmem, ⟨12, _⟩ => ⟨S64x512, .f32⟩
  | .local _ .smem, ⟨0, _⟩ => ⟨S1x1x2, .i32⟩
  | .local _ .smem, ⟨1, _⟩ => ⟨S1x1x2, .i32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c_0 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_v6 : Ref sig .tc := ⟨.hbm, 15, rfl⟩
abbrev main_call0_v7 : Ref sig .tc := ⟨.hbm, 16, rfl⟩
abbrev main_call0_c_2 : Ref sig .tc := ⟨.hbm, 17, rfl⟩
abbrev main_call0_v8 : Ref sig .tc := ⟨.hbm, 18, rfl⟩
abbrev main_call0_v9 : Ref sig .tc := ⟨.hbm, 19, rfl⟩
abbrev main_call0_c_3 : Ref sig .tc := ⟨.hbm, 20, rfl⟩
abbrev main_call0_v10 : Ref sig .tc := ⟨.hbm, 21, rfl⟩
abbrev main_call0_v11 : Ref sig .tc := ⟨.hbm, 22, rfl⟩
abbrev main_call0_c_4 : Ref sig .tc := ⟨.hbm, 23, rfl⟩
abbrev main_call0_v12 : Ref sig .tc := ⟨.hbm, 24, rfl⟩
abbrev main_call0_v13 : Ref sig .tc := ⟨.hbm, 25, rfl⟩
abbrev main_call0_c_5 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_c_6 : Ref sig .tc := ⟨.hbm, 32, rfl⟩
abbrev main_call0_v19 : Ref sig .tc := ⟨.hbm, 33, rfl⟩
abbrev main_call0_v20 : Ref sig .tc := ⟨.hbm, 34, rfl⟩
abbrev main_call0_c_7 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_v0 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![6, 13], ![false, false]⟩

def k0_off1 (v16 : BitVec 32) : Fin 2 → Nat :=
  let c0_i32_10 : BitVec 32 := 0#32
  let v19 : BitVec 1 := Scalar.cmpi .sgt v16 c0_i32_10
  let v20 : BitVec 32 := Scalar.extui v19
  let c0_i32_11 : BitVec 32 := 0#32
  let v21 : BitVec 1 := Scalar.cmpi .slt v16 c0_i32_11
  let v22 : BitVec 32 := Scalar.extui v21
  let v23 : BitVec 32 := Scalar.subi v20 v22
  let c8_i32 : BitVec 32 := 8#32
  let c0_i32_12 : BitVec 32 := 0#32
  let v24 : BitVec 1 := Scalar.cmpi .sgt c8_i32 c0_i32_12
  let v25 : BitVec 32 := Scalar.extui v24
  let c0_i32_13 : BitVec 32 := 0#32
  let v26 : BitVec 1 := Scalar.cmpi .slt c8_i32 c0_i32_13
  let v27 : BitVec 32 := Scalar.extui v26
  let v28 : BitVec 32 := Scalar.subi v25 v27
  let v29 : BitVec 1 := Scalar.cmpi .ne v23 v28
  let v30 : BitVec 32 := Scalar.remsi v16 c8_i32
  let c0_i32_14 : BitVec 32 := 0#32
  let v31 : BitVec 1 := Scalar.cmpi .ne v30 c0_i32_14
  let v32 : BitVec 1 := Scalar.andi v29 v31
  let v18 : BitVec 32 := Scalar.divsi v16 c8_i32
  let c1_i32 : BitVec 32 := 1#32
  let v33 : BitVec 32 := Scalar.subi v18 c1_i32
  let v34 : BitVec 32 := Scalar.select v32 v33 v18
  let c8_i32_15 : BitVec 32 := 8#32
  let v35 : BitVec 32 := Scalar.muli v34 c8_i32_15
  let c48_i32 : BitVec 32 := 48#32
  let v36 : BitVec 32 := Scalar.minsi v35 c48_i32
  let v49 : Index := Scalar.indexCast v36
  let c0_19 : Index := 0#32
  ![v49.toNat, 0]
def k0_cond2 (v16 : BitVec 32) (v17 : BitVec 32) : BitVec 1 :=
  let c0_i32_10 : BitVec 32 := 0#32
  let v19 : BitVec 1 := Scalar.cmpi .sgt v16 c0_i32_10
  let v20 : BitVec 32 := Scalar.extui v19
  let c0_i32_11 : BitVec 32 := 0#32
  let v21 : BitVec 1 := Scalar.cmpi .slt v16 c0_i32_11
  let v22 : BitVec 32 := Scalar.extui v21
  let v23 : BitVec 32 := Scalar.subi v20 v22
  let c8_i32 : BitVec 32 := 8#32
  let c0_i32_12 : BitVec 32 := 0#32
  let v24 : BitVec 1 := Scalar.cmpi .sgt c8_i32 c0_i32_12
  let v25 : BitVec 32 := Scalar.extui v24
  let c0_i32_13 : BitVec 32 := 0#32
  let v26 : BitVec 1 := Scalar.cmpi .slt c8_i32 c0_i32_13
  let v27 : BitVec 32 := Scalar.extui v26
  let v28 : BitVec 32 := Scalar.subi v25 v27
  let v29 : BitVec 1 := Scalar.cmpi .ne v23 v28
  let v30 : BitVec 32 := Scalar.remsi v16 c8_i32
  let c0_i32_14 : BitVec 32 := 0#32
  let v31 : BitVec 1 := Scalar.cmpi .ne v30 c0_i32_14
  let v32 : BitVec 1 := Scalar.andi v29 v31
  let v18 : BitVec 32 := Scalar.divsi v16 c8_i32
  let c1_i32 : BitVec 32 := 1#32
  let v33 : BitVec 32 := Scalar.subi v18 c1_i32
  let v34 : BitVec 32 := Scalar.select v32 v33 v18
  let c8_i32_15 : BitVec 32 := 8#32
  let v35 : BitVec 32 := Scalar.muli v34 c8_i32_15
  let c48_i32 : BitVec 32 := 48#32
  let v36 : BitVec 32 := Scalar.minsi v35 c48_i32
  let v37 : BitVec 32 := Scalar.subi v17 v36
  let c16_i32 : BitVec 32 := 16#32
  let v38 : BitVec 1 := Scalar.cmpi .slt v37 c16_i32
  let v39 : BitVec 32 := Scalar.extui v38
  let c0_i32_16 : BitVec 32 := 0#32
  let v40 : BitVec 1 := Scalar.cmpi .ne v39 c0_i32_16
  v40

def k0_off2 (v16 : BitVec 32) : Fin 2 → Nat :=
  let c0_i32_10 : BitVec 32 := 0#32
  let v19 : BitVec 1 := Scalar.cmpi .sgt v16 c0_i32_10
  let v20 : BitVec 32 := Scalar.extui v19
  let c0_i32_11 : BitVec 32 := 0#32
  let v21 : BitVec 1 := Scalar.cmpi .slt v16 c0_i32_11
  let v22 : BitVec 32 := Scalar.extui v21
  let v23 : BitVec 32 := Scalar.subi v20 v22
  let c8_i32 : BitVec 32 := 8#32
  let c0_i32_12 : BitVec 32 := 0#32
  let v24 : BitVec 1 := Scalar.cmpi .sgt c8_i32 c0_i32_12
  let v25 : BitVec 32 := Scalar.extui v24
  let c0_i32_13 : BitVec 32 := 0#32
  let v26 : BitVec 1 := Scalar.cmpi .slt c8_i32 c0_i32_13
  let v27 : BitVec 32 := Scalar.extui v26
  let v28 : BitVec 32 := Scalar.subi v25 v27
  let v29 : BitVec 1 := Scalar.cmpi .ne v23 v28
  let v30 : BitVec 32 := Scalar.remsi v16 c8_i32
  let c0_i32_14 : BitVec 32 := 0#32
  let v31 : BitVec 1 := Scalar.cmpi .ne v30 c0_i32_14
  let v32 : BitVec 1 := Scalar.andi v29 v31
  let v18 : BitVec 32 := Scalar.divsi v16 c8_i32
  let c1_i32 : BitVec 32 := 1#32
  let v33 : BitVec 32 := Scalar.subi v18 c1_i32
  let v34 : BitVec 32 := Scalar.select v32 v33 v18
  let c8_i32_15 : BitVec 32 := 8#32
  let v35 : BitVec 32 := Scalar.muli v34 c8_i32_15
  let c48_i32 : BitVec 32 := 48#32
  let v36 : BitVec 32 := Scalar.minsi v35 c48_i32
  let v117 : Index := Scalar.indexCast v36
  let c0_38 : Index := 0#32
  ![v117.toNat, 0]

def k0_chk1 (v16 : BitVec 32) (v17 : BitVec 32) : Prop :=
  (∀ (k0_h2 : k0_cond2 v16 v17 = 1#1), ∀ a, (k0_off1 v16) a + S16x512.size a ≤ S64x512.size a) ∧
  (∀ (k0_h2 : k0_cond2 v16 v17 = 1#1), ∀ a, (k0_off2 v16) a + S16x1.size a ≤ S64x1.size a)
theorem k0_off1_inb : ∀ (v16 : BitVec 32) (v17 : BitVec 32) (k0_hw1 : k0_chk1 v16 v17), ∀ (k0_h2 : k0_cond2 v16 v17 = 1#1), ∀ a, (k0_off1 v16) a + S16x512.size a ≤ S64x512.size a := fun v16 v17 k0_hw1 k0_h2 => k0_hw1.1 k0_h2
theorem k0_off2_inb : ∀ (v16 : BitVec 32) (v17 : BitVec 32) (k0_hw1 : k0_chk1 v16 v17), ∀ (k0_h2 : k0_cond2 v16 v17 = 1#1), ∀ a, (k0_off2 v16) a + S16x1.size a ≤ S64x1.size a := fun v16 v17 k0_hw1 k0_h2 => k0_hw1.2 k0_h2

def k0_cond4 (i : grid0.Coords) : BitVec 1 :=
  let arg0 : BitVec 32 := BitVec.ofNat 32 (i 0).val
  let c5_i32 : BitVec 32 := 5#32
  let v44 : BitVec 1 := Scalar.cmpi .eq arg0 c5_i32
  let arg1 : BitVec 32 := BitVec.ofNat 32 (i 1).val
  let c12_i32 : BitVec 32 := 12#32
  let v45 : BitVec 1 := Scalar.cmpi .eq arg1 c12_i32
  let v46 : BitVec 1 := Scalar.andi v44 v45
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .smem S1x1x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S50000x512 : Shape := ⟨2, ![50000, 512]⟩
abbrev S50000 : Shape := ⟨1, ![50000]⟩
abbrev S2048x1024 : Shape := ⟨2, ![2048, 1024]⟩
abbrev S2048x512 : Shape := ⟨2, ![2048, 512]⟩
abbrev S2048 : Shape := ⟨1, ![2048]⟩
abbrev S1x50000 : Shape := ⟨2, ![1, 50000]⟩
abbrev S64 : Shape := ⟨1, ![64]⟩
abbrev S64x1 : Shape := ⟨2, ![64, 1]⟩
abbrev S64x50000 : Shape := ⟨2, ![64, 50000]⟩
abbrev S_ : Shape := ⟨0, ![]⟩
abbrev S64x512 : Shape := ⟨2, ![64, 512]⟩
abbrev S64x1024 : Shape := ⟨2, ![64, 1024]⟩
abbrev S1024x2048 : Shape := ⟨2, ![1024, 2048]⟩
abbrev S64x2048 : Shape := ⟨2, ![64, 2048]⟩
abbrev S512x2048 : Shape := ⟨2, ![512, 2048]⟩
abbrev S1x2048 : Shape := ⟨2, ![1, 2048]⟩
abbrev S50000x1 : Shape := ⟨2, ![50000, 1]⟩

abbrev nBuf : Space → Nat
  | .hbm => 138
  | .vmem => 0
  | .smem => 0
  | _ => 0

abbrev hbmTy0_0 (i : Nat) : BufTy := match i % 128 with
  | 0 => ⟨S50000x512, .f32⟩
  | 1 => ⟨S50000, .i32⟩
  | 2 => ⟨S2048x1024, .f32⟩
  | 3 => ⟨S2048x512, .f32⟩
  | 4 => ⟨S2048, .f32⟩
  | 5 => ⟨S2048, .f32⟩
  | 6 => ⟨S1x50000, .i32⟩
  | 7 => ⟨S64, .i32⟩
  | 8 => ⟨S64x1, .i32⟩
  | 9 => ⟨S64x50000, .i32⟩
  | 10 => ⟨S64x50000, .i32⟩
  | 11 => ⟨S64x50000, .i1⟩
  | 12 => ⟨S_, .f32⟩
  | 13 => ⟨S64x512, .f32⟩
  | 14 => ⟨S_, .f32⟩
  | 15 => ⟨S64x512, .f32⟩
  | 16 => ⟨S_, .f32⟩
  | 17 => ⟨S64x1024, .f32⟩
  | 18 => ⟨S_, .i32⟩
  | 19 => ⟨S_, .i32⟩
  | 20 => ⟨S2048x1024, .f32⟩
  | 21 => ⟨S2048x512, .f32⟩
  | 22 => ⟨S2048, .f32⟩
  | 23 => ⟨S2048, .f32⟩
  | 24 => ⟨S50000, .i32⟩
  | 25 => ⟨S50000x512, .f32⟩
  | 26 => ⟨S64x50000, .i1⟩
  | 27 => ⟨S_, .i32⟩
  | 28 => ⟨S_, .i32⟩
  | 29 => ⟨S64x512, .f32⟩
  | 30 => ⟨S64x512, .f32⟩
  | 31 => ⟨S64x1024, .f32⟩
  | 32 => ⟨S_, .i32⟩
  | 33 => ⟨S_, .i1⟩
  | 34 => ⟨S_, .i32⟩
  | 35 => ⟨S_, .i32⟩
  | 36 => ⟨S1024x2048, .f32⟩
  | 37 => ⟨S64x2048, .f32⟩
  | 38 => ⟨S512x2048, .f32⟩
  | 39 => ⟨S64x2048, .f32⟩
  | 40 => ⟨S64x2048, .f32⟩
  | 41 => ⟨S1x2048, .f32⟩
  | 42 => ⟨S64x2048, .f32⟩
  | 43 => ⟨S64x2048, .f32⟩
  | 44 => ⟨S1x2048, .f32⟩
  | 45 => ⟨S64x2048, .f32⟩
  | 46 => ⟨S64x2048, .f32⟩
  | 47 => ⟨S64x512, .f32⟩
  | 48 => ⟨S64x512, .f32⟩
  | 49 => ⟨S64x512, .f32⟩
  | 50 => ⟨S64x512, .f32⟩
  | 51 => ⟨S64x512, .f32⟩
  | 52 => ⟨S64x512, .f32⟩
  | 53 => ⟨S_, .f32⟩
  | 54 => ⟨S64x512, .f32⟩
  | 55 => ⟨S64x512, .f32⟩
  | 56 => ⟨S_, .f32⟩
  | 57 => ⟨S64x512, .f32⟩
  | 58 => ⟨S64x512, .f32⟩
  | 59 => ⟨S64x512, .f32⟩
  | 60 => ⟨S64x512, .f32⟩
  | 61 => ⟨S_, .f32⟩
  | 62 => ⟨S64x512, .f32⟩
  | 63 => ⟨S64x512, .f32⟩
  | 64 => ⟨S_, .f32⟩
  | 65 => ⟨S64x512, .f32⟩
  | 66 => ⟨S64x512, .f32⟩
  | 67 => ⟨S64x512, .f32⟩
  | 68 => ⟨S64x512, .f32⟩
  | 69 => ⟨S64x512, .f32⟩
  | 70 => ⟨S_, .f32⟩
  | 71 => ⟨S64x512, .f32⟩
  | 72 => ⟨S64x512, .f32⟩
  | 73 => ⟨S_, .f32⟩
  | 74 => ⟨S64x512, .f32⟩
  | 75 => ⟨S64x512, .f32⟩
  | 76 => ⟨S64x512, .f32⟩
  | 77 => ⟨S64x512, .f32⟩
  | 78 => ⟨S64x512, .f32⟩
  | 79 => ⟨S64x512, .f32⟩
  | 80 => ⟨S64x512, .f32⟩
  | 81 => ⟨S_, .i32⟩
  | 82 => ⟨S50000, .i32⟩
  | 83 => ⟨S50000, .i1⟩
  | 84 => ⟨S_, .i32⟩
  | 85 => ⟨S50000, .i32⟩
  | 86 => ⟨S50000, .i32⟩
  | 87 => ⟨S50000, .i32⟩
  | 88 => ⟨S50000x1, .i32⟩
  | 89 => ⟨S50000x512, .f32⟩
  | 90 => ⟨S50000x512, .f32⟩
  | 91 => ⟨S_, .f32⟩
  | 92 => ⟨S50000, .f32⟩
  | 93 => ⟨S50000x1, .f32⟩
  | 94 => ⟨S50000, .f32⟩
  | 95 => ⟨S1x50000, .f32⟩
  | 96 => ⟨S_, .f32⟩
  | 97 => ⟨S_, .f32⟩
  | 98 => ⟨S64x50000, .f32⟩
  | 99 => ⟨S64x50000, .f32⟩
  | 100 => ⟨S64x50000, .f32⟩
  | 101 => ⟨S_, .f32⟩
  | 102 => ⟨S64, .f32⟩
  | 103 => ⟨S64x1, .f32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S50000x1, .f32⟩
  | 113 => ⟨S50000x1, .f32⟩
  | 114 => ⟨S50000x1, .f32⟩
  | 115 => ⟨S_, .f32⟩
  | 116 => ⟨S64x1, .f32⟩
  | 117 => ⟨S50000x1, .i32⟩
  | 118 => ⟨S64x1, .f32⟩
  | 119 => ⟨S_, .i32⟩
  | 120 => ⟨S50000, .i32⟩
  | 121 => ⟨S50000, .i1⟩
  | 122 => ⟨S_, .i32⟩
  | 123 => ⟨S50000, .i32⟩
  | 124 => ⟨S50000, .i32⟩
  | 125 => ⟨S50000, .i32⟩
  | 126 => ⟨S50000x1, .i32⟩
  | 127 => ⟨S50000x1, .f32⟩
  | _ => ⟨S50000x512, .f32⟩

abbrev hbmTy0_1 (i : Nat) : BufTy := match i % 128 with
  | 0 => ⟨S50000x1, .f32⟩
  | 1 => ⟨S50000x512, .f32⟩
  | 2 => ⟨S50000x512, .f32⟩
  | 3 => ⟨S_, .f32⟩
  | 4 => ⟨S64x512, .f32⟩
  | 5 => ⟨S50000x1, .i32⟩
  | 6 => ⟨S64x512, .f32⟩
  | 7 => ⟨S64x1024, .f32⟩
  | 8 => ⟨S_, .i32⟩
  | 9 => ⟨S_, .i32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_c : Ref sig .tc := ⟨.hbm, 18, rfl⟩
abbrev main_c_2 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_v9_9 : Ref sig .tc := ⟨.hbm, 29, rfl⟩
abbrev main_v9_10 : Ref sig .tc := ⟨.hbm, 30, rfl⟩
abbrev main_v9_11 : Ref sig .tc := ⟨.hbm, 31, rfl⟩
abbrev main_while0c_c_14 : Ref sig .tc := ⟨.hbm, 32, rfl⟩
abbrev main_while0c_v10 : Ref sig .tc := ⟨.hbm, 33, rfl⟩
abbrev main_while0b_c_14 : Ref sig .tc := ⟨.hbm, 34, rfl⟩
abbrev main_while0b_v10 : Ref sig .tc := ⟨.hbm, 35, rfl⟩
abbrev main_while0b_v11 : Ref sig .tc := ⟨.hbm, 36, rfl⟩
abbrev main_while0b_v12 : Ref sig .tc := ⟨.hbm, 37, rfl⟩
abbrev main_while0b_v13 : Ref sig .tc := ⟨.hbm, 38, rfl⟩
abbrev main_while0b_v14 : Ref sig .tc := ⟨.hbm, 39, rfl⟩
abbrev main_while0b_v15 : Ref sig .tc := ⟨.hbm, 40, rfl⟩
abbrev main_while0b_v16 : Ref sig .tc := ⟨.hbm, 41, rfl⟩
abbrev main_while0b_v17 : Ref sig .tc := ⟨.hbm, 42, rfl⟩
abbrev main_while0b_v18 : Ref sig .tc := ⟨.hbm, 43, rfl⟩
abbrev main_while0b_v19 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_v24 : Ref sig .tc := ⟨.hbm, 49, rfl⟩
abbrev main_while0b_v25 : Ref sig .tc := ⟨.hbm, 50, rfl⟩
abbrev main_while0b_v26 : Ref sig .tc := ⟨.hbm, 51, rfl⟩
abbrev main_while0b_v27 : Ref sig .tc := ⟨.hbm, 52, rfl⟩
abbrev main_while0b_cst_15 : Ref sig .tc := ⟨.hbm, 53, rfl⟩
abbrev main_while0b_v28 : Ref sig .tc := ⟨.hbm, 54, rfl⟩
abbrev main_while0b_v29 : Ref sig .tc := ⟨.hbm, 55, rfl⟩
abbrev main_while0b_cst_16 : Ref sig .tc := ⟨.hbm, 56, rfl⟩
abbrev main_while0b_v30 : Ref sig .tc := ⟨.hbm, 57, rfl⟩
abbrev main_while0b_v31 : Ref sig .tc := ⟨.hbm, 58, rfl⟩
abbrev main_while0b_v32 : Ref sig .tc := ⟨.hbm, 59, rfl⟩
abbrev main_while0b_v33 : Ref sig .tc := ⟨.hbm, 60, rfl⟩
abbrev main_while0b_cst_17 : Ref sig .tc := ⟨.hbm, 61, rfl⟩
abbrev main_while0b_v34 : Ref sig .tc := ⟨.hbm, 62, rfl⟩
abbrev main_while0b_v35 : Ref sig .tc := ⟨.hbm, 63, rfl⟩
abbrev main_while0b_cst_18 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_cst_19 : Ref sig .tc := ⟨.hbm, 70, rfl⟩
abbrev main_while0b_v41 : Ref sig .tc := ⟨.hbm, 71, rfl⟩
abbrev main_while0b_v42 : Ref sig .tc := ⟨.hbm, 72, rfl⟩
abbrev main_while0b_cst_20 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_v47 : Ref sig .tc := ⟨.hbm, 78, rfl⟩
abbrev main_while0b_v48 : Ref sig .tc := ⟨.hbm, 79, rfl⟩
abbrev main_while0b_v49 : Ref sig .tc := ⟨.hbm, 80, rfl⟩
abbrev main_while0b_c_21 : Ref sig .tc := ⟨.hbm, 81, rfl⟩
abbrev main_while0b_v50 : Ref sig .tc := ⟨.hbm, 82, rfl⟩
abbrev main_while0b_v51 : Ref sig .tc := ⟨.hbm, 83, rfl⟩
abbrev main_while0b_c_22 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_cst_23 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_cst_24 : Ref sig .tc := ⟨.hbm, 96, rfl⟩
abbrev main_while0b_call0_v0 : Ref sig .tc := ⟨.hbm, 97, rfl⟩
abbrev main_while0b_call0_v1 : Ref sig .tc := ⟨.hbm, 98, rfl⟩
abbrev main_while0b_call0_v2 : Ref sig .tc := ⟨.hbm, 99, rfl⟩
abbrev main_while0b_v62 : Ref sig .tc := ⟨.hbm, 100, rfl⟩
abbrev main_while0b_cst_25 : Ref sig .tc := ⟨.hbm, 101, rfl⟩
abbrev main_while0b_v63 : Ref sig .tc := ⟨.hbm, 102, rfl⟩
abbrev main_while0b_v64 : Ref sig .tc := ⟨.hbm, 103, rfl⟩
abbrev main_while0b_c_26 : Ref sig .tc := ⟨.hbm, 104, rfl⟩
abbrev main_while0b_v65 : Ref sig .tc := ⟨.hbm, 105, rfl⟩
abbrev main_while0b_v66 : Ref sig .tc := ⟨.hbm, 106, rfl⟩
abbrev main_while0b_c_27 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_v72 : Ref sig .tc := ⟨.hbm, 113, rfl⟩
abbrev main_while0b_v73 : Ref sig .tc := ⟨.hbm, 114, rfl⟩
abbrev main_while0b_cst_28 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_c_29 : Ref sig .tc := ⟨.hbm, 119, rfl⟩
abbrev main_while0b_v77 : Ref sig .tc := ⟨.hbm, 120, rfl⟩
abbrev main_while0b_v78 : Ref sig .tc := ⟨.hbm, 121, rfl⟩
abbrev main_while0b_c_30 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_cst_31 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_c_32 : Ref sig .tc := ⟨.hbm, 136, rfl⟩
abbrev main_while0b_v91 : Ref sig .tc := ⟨.hbm, 137, rfl⟩

abbrev nD : Nat := 1
abbrev τ : Topo := Topo.v7x

variable {F : FTy → Type} [FloatOps F]

abbrev main_while0_count : Scf.Loop 32 := ⟨0#32, 6#32, 1#32⟩
-- ==== Proof.Owned.lean ====
/-
  Loads and stores of buffers held by their values. A memref held at `X` is read, through a unit-stride rectangle, as a
  window of `X`, and an unmasked store there leaves `X` with the payload over that window; at the memref's own sizes the
  window is `X` itself and the store leaves the payload. Stated for any memref, any shares and any program after the step.
-/
module

public import Idealize.ShloMosaic.Lib.VecWindow
public import Idealize.ShloMosaic.Lib.Memref
public import Idealize.ShloMosaic.Lib.Tactic

@[expose] public section

noncomputable section

namespace Cert.Owned

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}
local notation "𝕄" => MT nD τ sig Ix Val Name U Lvl

variable {defs : Defs nD τ sig Val Λ} (𝒱 : Variants) (c : Thread nD τ) (bd : Option 𝒱.V) (E : Set Name)
variable {s : Shape} {e : EltTy} {α : Type}

/-- A load through a unit-stride rectangle of a memref held at `X` continues at the window of `X`. -/
theorem load_window {Q : α → sProp 𝕄} {cs : CoreSpace} {m : Memref sig c.2.kind cs s e} {off off' size : Fin s.rank → ℕ} {inb : ∀ a, off a + size a ≤ s.size a}
    {hl : m.view.LoadsAt (Rect.unit off size inb).toLoadRect}
    {k : ((Rect.unit off size inb).shape.Idx → Val e) → Prog (TpuEff nD τ sig Val Λ c.2) α} {q : PosShare TreeShare} {X : s.Idx → Val e}
    (ho : off = off') (inb' : ∀ a, off' a + size a ≤ s.size a) :
    (owns c m q X : sProp 𝕄)
      ⊢ iprop((owns c m q X -∗ wp frame (wpE defs 𝒱 c bd) E (k (VecWindow.window X off' size inb')) Q)
        -∗ wp frame (wpE defs 𝒱 c bd) E (.op (.load m (Rect.unit off size inb).toLoadRect hl) k) Q) := by
  unfold owns
  iintro ⟨%f, %hf, H⟩ Hk
  have hw : m.view.readAt Val (Rect.unit off size inb).toLoadRect f = VecWindow.window X off' size inb' := by
    rw [View.readAt_unit m.view f inb ho inb', hf]
  iapply (wp_load 𝒱 c bd E (View.setOn_subset_set m.view _)) $$ H
  iintro H
  rw [hw]
  iapply Hk
  iexists f
  isplitr
  · ipureintro; exact hf
  · iexact H

/-- A load of the memref's own sizes continues at `X`. -/
theorem load_full {Q : α → sProp 𝕄} {cs : CoreSpace} {m : Memref sig c.2.kind cs s e} {off : Fin s.rank → ℕ} {inb : ∀ a, off a + s.size a ≤ s.size a}
    {hl : m.view.LoadsAt (Rect.unit off s.size inb).toLoadRect}
    {k : ((Rect.unit off s.size inb).shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  unfold owns
  iintro ⟨%f, %hf, H⟩ Hk
  have hw : m.view.readAt Val (Rect.unit off s.size inb).toLoadRect f = X := by
    rw [View.readAt_full m.view f inb, hf]
  iapply (wp_load 𝒱 c bd E (View.setOn_subset_set m.view _)) $$ H
  iintro H
  rw [hw]
  iapply Hk
  iexists f
  isplitr
  · ipureintro; exact hf
  · iexact H

/-- An unmasked store through a unit-stride rectangle leaves `X` with the payload over that window. -/
theorem store_window {Q : α → sProp 𝕄} {cs : CoreSpace} {m : Memref sig c.2.kind cs s e} {off off' size : Fin s.rank → ℕ} {inb : ∀ a, off a + size a ≤ s.size a}
    {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} (ho : off = off') :
    (owns c m fullShare X : sProp 𝕄)
      ⊢ iprop((owns c m fullShare (VecWindow.put X off' size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store 𝒱 c bd E (m := m) (r := Rect.unit off size inb) (w := w) (Mk := Finset.univ) (f := f) (hx := hx) (hm := hm) (k := k) (Q := Q) (S := m.view.set) (by rw [View.setOn_univ, View.set_slice]; exact View.setOn_subset_set m.view _)) $$ H
  iintro H
  iapply Hk
  iexists _
  isplitr
  swap
  · iexact H
  · ipureintro
    have h := View.read_writes_cons_put m.view f inb w [] ho
    rw [View.writes_nil, hf] at h
    exact h

/-- An unmasked store of the memref's own sizes leaves the payload. -/
theorem store_full {Q : α → sProp 𝕄} {cs : CoreSpace} {m : Memref sig c.2.kind cs s e} {off : Fin s.rank → ℕ} {inb : ∀ a, off a + s.size a ≤ s.size a}
    {w : (Rect.unit off s.size inb).shape.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare (w : s.Idx → Val e) -∗ wp frame (wpE defs 𝒱 c bd) E (k ⟨⟩) Q)
        -∗ wp frame (wpE defs 𝒱 c bd) E (.op (.store m (Rect.unit off s.size inb) w Finset.univ hx hm) k) Q) := by
  unfold owns
  iintro ⟨%f, %hf, H⟩ Hk
  iapply (wp_store 𝒱 c bd E (m := m) (r := Rect.unit off s.size inb) (w := w) (Mk := Finset.univ) (f := f) (hx := hx) (hm := hm) (k := k) (Q := Q) (S := m.view.set) (by rw [View.setOn_univ, View.set_slice]; exact View.setOn_subset_set m.view _)) $$ H
  iintro H
  iapply Hk
  iexists _
  isplitr
  swap
  · iexact H
  · ipureintro
    exact View.read_writes_full m.view f inb w []

/-- The load of one word of a scalar-memory memref held at `X` continues at `X`'s element there. -/
theorem load_word {Q : α → sProp 𝕄} {m : Memref sig c.2.kind .smem s e} {off size : Fin s.rank → ℕ} {inb : ∀ a, off a + size a ≤ s.size a}
    {h1 : (Rect.unit off size inb).shape.numel = 1} {hp : e.packing = 1}
    {k : Val e → Prog (TpuEff nD τ sig Val Λ c.2) α} {q : PosShare TreeShare} {X : s.Idx → Val e}
    (i : s.Idx) (hi : ∀ a, off a ≤ (i a).val ∧ (i a).val < off a + size a) :
    (owns c m q X : sProp 𝕄)
      ⊢ iprop((owns c m q X -∗ wp frame (wpE defs 𝒱 c bd) E (k (X i)) Q)
        -∗ wp frame (wpE defs 𝒱 c bd) E (smemLoad m (Rect.unit off size inb) h1 hp >>= k) Q) := by
  unfold smemLoad smemLoadElt owns
  rw [Prog.bind_op]
  iintro ⟨%f, %hf, H⟩ Hk
  have hw : m.view.readAt Val (Rect.unit off size inb).toLoadRect f (Shape.Idx.first (h1.symm ▸ Nat.one_pos)) = X i := by
    rw [← hf]
    show m.view.read Val f ((Rect.unit off size inb).emb _) = _
    refine congrArg (m.view.read Val f) ?_
    have hsub : Subsingleton (Rect.unit off size inb).shape.Idx := by
      have hc : Fintype.card (Rect.unit off size inb).shape.Idx = 1 := (Shape.card_idx (s := (Rect.unit off size inb).shape)).trans h1
      exact Fintype.card_le_one_iff_subsingleton.mp hc.le
    have hemb : (Rect.unit off size inb).emb (Rect.unitLocal (s := s) (off := off) (size := size) i hi) = i :=
      funext fun a => Fin.ext (by
        show off a + 1 * ((i a).val - off a) = (i a).val
        have := hi a; omega)
    rw [← hemb]
    exact congrArg _ (hsub.elim _ _)
  iapply (wp_load 𝒱 c bd E (View.setOn_subset_set m.view _)) $$ H
  iintro H
  rw [Prog.bind_ret, hw]
  iapply Hk
  iexists f
  isplitr
  · ipureintro; exact hf
  · iexact H

end Cert.Owned

end
-- ==== Proof.Ideal.Step.lean ====
/-
  What the body does to the state it carries. The state is the five scratch arrays: the hidden state and the cell of the
  recurrence (`h`, `c`) and, per segment, the running maximum, the running sum and the weighted sum of the readout
  (`m`, `l`, `acc`). At a point the body may start an iteration (`resetSt`), then adds the point's rows either to a window
  of sixteen segments (`fastSt`) or to all sixty-four (`slowSt`).
-/
module

public import proofs.«01_k».proof.Proof.Gen.KernelIdeal.Skeleton
public import Idealize.ShloMosaic.Lib.VecWindow
public import Idealize.ShloMosaic.Lib.ValueIdxCore

@[expose] public section

noncomputable section

namespace Cert.KernelIdeal.Gen

open Idealize.ShloMosaic Idealize.SL.Sem

variable {F : FTy → Type} [FloatOps F]

/-- The scratch arrays' contents. -/
structure St (F : FTy → Type) [FloatOps F] where
  h : Vec F S64x512 .f32
  c : Vec F S64x512 .f32
  m : Vec F S64x1 .f32
  l : Vec F S64x1 .f32
  acc : Vec F S64x512 .f32

/-- The words of a point's rows: the segment of each row, and the rows' features with the rows past the end at zero;
    then the first and the last segment the block holds. -/
structure Rows (F : FTy → Type) [FloatOps F] where
  seg : IVec S1x4096 32
  feat : Vec F S4096x512 .f32
  first : BitVec 32
  last : BitVec 32

/-- The weights: of the readout and the hidden state, and the bias. -/
structure Weights (F : FTy → Type) [FloatOps F] where
  ih : Vec F S2048x1024 .f32
  hh : Vec F S2048x512 .f32
  b : Vec F S1x2048 .f32

/-- A point starts an iteration: it is the first of its row of the grid. -/
abbrev starts (i : grid0.Coords) : BitVec 1 :=
  Scalar.cmpi .ne (Scalar.extui (Scalar.cmpi .eq (BitVec.ofNat 32 (i 1).val) 0#32)) 0#32

/-- The state after an iteration is started: one step of the recurrence, and the readout's sums emptied. -/
def resetSt (i : grid0.Coords) (W : Weights F) (s : St F) : St F :=
  let a0 := BitVec.ofNat 32 (i 0).val
  let v55 := k0_pay4 a0 s.c
  let v80 := k0_pay6 a0 s.h s.l s.acc W.ih W.hh W.b
  let v82 := k0_pay7 a0 s.h s.l s.acc W.ih W.hh W.b
  let v84 := k0_pay8 a0 s.h s.l s.acc W.ih W.hh W.b
  let v86 := k0_pay9 a0 s.h s.l s.acc W.ih W.hh W.b
  { h := k0_pay56 v55 v80 v82 v84 v86, c := k0_pay57 v55 v80 v82 v84, m := k0_pay58, l := k0_pay59, acc := k0_pay60 }

/-- The first segment of the window of sixteen, as the body computes it of the block's first segment. -/
def windowAt (v16 : BitVec 32) : BitVec 32 :=
  let v31 := Scalar.cmpi .ne (Scalar.remsi v16 8#32) 0#32
  let v29 := Scalar.cmpi .ne
    (Scalar.subi (Scalar.extui (Scalar.cmpi .sgt v16 0#32)) (Scalar.extui (Scalar.cmpi .slt v16 0#32)))
    (Scalar.subi (Scalar.extui (Scalar.cmpi .sgt 8#32 0#32)) (Scalar.extui (Scalar.cmpi .slt 8#32 0#32)))
  let v18 := Scalar.divsi v16 8#32
  Scalar.minsi (Scalar.muli (Scalar.select (Scalar.andi v29 v31) (Scalar.subi v18 1#32) v18) 8#32) 48#32

/-- The block's segments reach past the window: all sixty-four are taken. -/
abbrev wide (v16 v17 : BitVec 32) : BitVec 1 :=
  Scalar.cmpi .ne (Scalar.extui (Scalar.xori (Scalar.cmpi .slt (Scalar.subi v17 (windowAt v16)) 16#32) 1#1)) 0#32

/-- The sums of the window of sixteen segments after the point's rows are added: maximum, sum, weighted sum. -/
structure Part (F : FTy → Type) [FloatOps F] (a b : Shape) where
  m : Vec F a .f32
  l : Vec F a .f32
  acc : Vec F b .f32

/-- A window's sums after the point's rows, from the sums `p` before and the window's queries `q`. -/
def fastPart (r : Rows F) (q : Vec F S16x512 .f32) (p : Part F S16x1 S16x512) : Part F S16x1 S16x512 :=
  let w := windowAt r.first
  let v70 := k0_pay15 r.seg r.feat w q
  let v83 := k0_pay17 r.seg r.feat w q
  let v85 := k0_pay18 r.seg r.feat w q
  let v93 := k0_pay19 r.seg w
  let v94 := k0_pay20 r.feat
  let v95 := k0_pay21 r.feat q
  let v96 := k0_pay22 r.feat q
  { m := k0_pay31 v70 v93 v95 v96 p.m
    l := k0_pay32 v70 v83 v93 v95 v96 p.m p.l
    acc := k0_pay1 v85 (k0_pay26 v93 v94 v95 v96) (k0_pay28 v70 v93 v95 v96 p.m) (k0_pay29 v70 v93 v95 v96 p.m) (k0_pay30 v70 v93 v95 v96 p.m) p.acc }

/-- All the segments' sums after the point's rows, from the sums `p` before and the queries `q`. -/
def slowPart (r : Rows F) (q : Vec F S64x512 .f32) (p : Part F S64x1 S64x512) : Part F S64x1 S64x512 :=
  let v53 := k0_pay34 q
  let v69 := k0_pay38 r.seg r.feat q
  let v82 := k0_pay40 r.seg r.feat q
  let v84 := k0_pay41 r.seg r.feat q
  let v92 := k0_pay42 r.seg
  let v93 := k0_pay43 r.feat
  let v94 := k0_pay44 r.feat q
  { m := k0_pay53 v53 v69 v92 v93 v94 p.m
    l := k0_pay54 v53 v69 v82 v92 v93 v94 p.m p.l
    acc := k0_pay2 v84 (k0_pay48 v53 v92 v93 v94) (k0_pay50 v53 v69 v92 v93 v94 p.m) (k0_pay51 v53 v69 v92 v93 v94 p.m) (k0_pay52 v53 v69 v92 v93 v94 p.m) p.acc }

/-- The state after the window's segments took the point's rows. -/
def fastSt (r : Rows F) (hw : k0_chk1 r.first r.last) (h2 : k0_cond2 r.first r.last = 1#1) (s : St F) : St F :=
  let o1 := k0_off1_inb r.first r.last hw h2
  let o2 := k0_off2_inb r.first r.last hw h2
  let p := fastPart r (VecWindow.window (s := S64x512) s.h (k0_off1 r.first) S16x512.size o1)
    { m := VecWindow.window (s := S64x1) s.m (k0_off2 r.first) S16x1.size o2
      l := VecWindow.window (s := S64x1) s.l (k0_off2 r.first) S16x1.size o2
      acc := VecWindow.window (s := S64x512) s.acc (k0_off1 r.first) S16x512.size o1 }
  { s with
    m := VecWindow.put (s := S64x1) s.m (k0_off2 r.first) S16x1.size p.m
    l := VecWindow.put (s := S64x1) s.l (k0_off2 r.first) S16x1.size p.l
    acc := VecWindow.put (s := S64x512) s.acc (k0_off1 r.first) S16x512.size p.acc }

/-- The state after all the segments took the point's rows. -/
def slowSt (r : Rows F) (s : St F) : St F :=
  let p := slowPart r s.h { m := s.m, l := s.l, acc := s.acc }
  { s with m := p.m, l := p.l, acc := p.acc }

/-- The state once the point's iteration is under way. -/
def startSt (i : grid0.Coords) (W : Weights F) (s : St F) : St F := if starts i = 1#1 then resetSt i W s else s

/-- The state after the window, if the block fits it. -/
def narrowSt (r : Rows F) (hw : k0_chk1 r.first r.last) (s : St F) : St F :=
  if h2 : k0_cond2 r.first r.last = 1#1 then fastSt r hw h2 s else s

/-- The state after all the segments, if the block does not fit the window. -/
def wideSt (r : Rows F) (s : St F) : St F := if wide r.first r.last = 1#1 then slowSt r s else s

/-- The state after a point, from the state before it. -/
def stepSt (i : grid0.Coords) (W : Weights F) (r : Rows F) (hw : k0_chk1 r.first r.last) (s : St F) : St F :=
  wideSt r (narrowSt r hw (startSt i W s))

/-- What the last point writes to the result. -/
def outSt (s : St F) : Vec F S64x1024 .f32 := k0_pay3 s.l s.acc s.h

/-- A point's rows from the words its blocks hold: the features, the rows' segments, the two words of the block's segments. -/
def rowsOf (i : grid0.Coords) (feat : Vec F S4096x512 .f32) (seg : Vec F S1x1x4096 .i32) (mt : Vec F S1x1x2 .i32) : Rows F where
  seg := k0_pay61 seg
  feat := k0_pay62 i feat
  first := mt (ValueIdx.ix3 0 0 0)
  last := mt (ValueIdx.ix3 0 0 1)

end Cert.KernelIdeal.Gen

end
-- ==== Proof.Ideal.Body.lean ====
/-
  The body, phase by phase. The body is its first part (an iteration may start; the point's words are read) and then three
  phases, each run or skipped: the window of sixteen segments, all the segments, the write of the result. Each phase is
  stated for any program that follows it: from the state before the phase it goes on at the state after.
-/
module

public import proofs.«01_k».proof.Proof.Owned
public import proofs.«01_k».proof.Proof.Ideal.Step
public import proofs.«01_k».proof.Proof.Gen.KernelIdeal.Frame

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Owned

variable {F : FTy → Type} [FloatOps F]

local notation "𝕄" => MT nD τ sig Unit (Elt F) ℕ (UR sig nD τ) ℕ

/-- The arrays the body is called with. -/
structure Refs where
  a2 : Memref sig .tc .vmem S4096x512 .f32
  h2 : a2.IsWhole
  a3 : Memref sig .tc .vmem S1x1x4096 .i32
  h3 : a3.IsWhole
  a4 : Memref sig .tc .smem S1x1x2 .i32
  h4 : a4.IsWhole
  a5 : Memref sig .tc .vmem S2048x1024 .f32
  h5 : a5.IsWhole
  a6 : Memref sig .tc .vmem S2048x512 .f32
  h6 : a6.IsWhole
  a7 : Memref sig .tc .vmem S1x2048 .f32
  h7 : a7.IsWhole
  a8 : Memref sig .tc .vmem S64x1024 .f32
  h8 : a8.IsWhole
  a9 : Memref sig .tc .vmem S64x512 .f32
  h9 : a9.IsWhole
  a10 : Memref sig .tc .vmem S64x512 .f32
  h10 : a10.IsWhole
  a11 : Memref sig .tc .vmem S64x1 .f32
  h11 : a11.IsWhole
  a12 : Memref sig .tc .vmem S64x1 .f32
  h12 : a12.IsWhole
  a13 : Memref sig .tc .vmem S64x512 .f32
  h13 : a13.IsWhole

/-- The window of sixteen segments, then `K`. -/
def fastJ (i : grid0.Coords) (R : Refs) (v4 : IVec S1x4096 32) (v15 : Vec F S4096x512 .f32) (v16 v17 v36 : BitVec 32) (hw : k0_chk1 v16 v17)
    (K : PUnit.{1} → Prog (TpuEff nD τ sig (Elt F) Λ₀ .tc) PUnit) : Prog (TpuEff nD τ sig (Elt F) Λ₀ .tc) PUnit :=
  if k0_h2 : k0_cond2 v16 v17 = 1#1 then do
    let ⟨v70, v83, v85, v93, v94, v95, v96⟩ ← k0_part2 i R.a2 R.h2 R.a3 R.h3 R.a4 R.h4 R.a5 R.h5 R.a6 R.h6 R.a7 R.h7 R.a8 R.h8 R.a9 R.h9 R.a10 R.h10 R.a11 R.h11 R.a12 R.h12 R.a13 R.h13 v4 v15 v16 v17 hw v36 k0_h2
    let ⟨v116, v122, v124, v126⟩ ← k0_part3 i R.a2 R.h2 R.a3 R.h3 R.a4 R.h4 R.a5 R.h5 R.a6 R.h6 R.a7 R.h7 R.a8 R.h8 R.a9 R.h9 R.a10 R.h10 R.a11 R.h11 R.a12 R.h12 R.a13 R.h13 v16 v17 hw v36 k0_h2 v70 v83 v93 v94 v95 v96
    let v143 : Vec F S16x512 .f32 ← Prog.lift (.load R.a13 (Rect.unit (s := S64x512) (k0_off1 v16) S16x512.size (k0_off1_inb v16 v17 hw k0_h2)).toLoadRect (View.loadsAt_vmem h_S16x512))
    let _ : Vec F S16x512 .f32 ← Prog.lift (.load R.a13 (Rect.unit (s := S64x512) (k0_off1 v16) S16x512.size (k0_off1_inb v16 v17 hw k0_h2)).toLoadRect (View.loadsAt_vmem h_S16x512))
    Prog.lift (.store R.a13 (Rect.unit (s := S64x512) (k0_off1 v16) S16x512.size (k0_off1_inb v16 v17 hw k0_h2)) (k0_pay1 v85 v116 v122 v124 v126 v143) Finset.univ (View.stores_vmem_bits_univ h_S16x512 rfl) (.inl rfl))
    K ⟨⟩
  else K ⟨⟩

/-- All the segments, then `K`. -/
def slowJ (i : grid0.Coords) (R : Refs) (v4 : IVec S1x4096 32) (v15 : Vec F S4096x512 .f32) (v43 : BitVec 1)
    (K : PUnit.{1} → Prog (TpuEff nD τ sig (Elt F) Λ₀ .tc) PUnit) : Prog (TpuEff nD τ sig (Elt F) Λ₀ .tc) PUnit :=
  if v43 = 1#1 then do
    let ⟨v53, v69, v82, v84, v92, v93, v94⟩ ← k0_part4 i R.a2 R.h2 R.a3 R.h3 R.a4 R.h4 R.a5 R.h5 R.a6 R.h6 R.a7 R.h7 R.a8 R.h8 R.a9 R.h9 R.a10 R.h10 R.a11 R.h11 R.a12 R.h12 R.a13 R.h13 v4 v15
    let ⟨v115, v120, v122, v124⟩ ← k0_part5 i R.a2 R.h2 R.a3 R.h3 R.a4 R.h4 R.a5 R.h5 R.a6 R.h6 R.a7 R.h7 R.a8 R.h8 R.a9 R.h9 R.a10 R.h10 R.a11 R.h11 R.a12 R.h12 R.a13 R.h13 v53 v69 v82 v92 v93 v94
    let v137 : Vec F S64x512 .f32 ← Prog.lift (.load R.a13 (Rect.unit (s := S64x512) ![0, 0] S64x512.size inb_S64x512_S64x512_0_0).toLoadRect (View.loadsAt_vmem h_S64x512))
    let _ : Vec F S64x512 .f32 ← Prog.lift (.load R.a13 (Rect.unit (s := S64x512) ![0, 0] S64x512.size inb_S64x512_S64x512_0_0).toLoadRect (View.loadsAt_vmem h_S64x512))
    Prog.lift (.store R.a13 (Rect.unit (s := S64x512) ![0, 0] S64x512.size inb_S64x512_S64x512_0_0) (k0_pay2 v84 v115 v120 v122 v124 v137) Finset.univ (View.stores_vmem_bits_univ h_S64x512 rfl) (.inl rfl))
    K ⟨⟩
  else K ⟨⟩

/-- The write of the result. -/
def lastJ (i : grid0.Coords) (R : Refs) : Prog (TpuEff nD τ sig (Elt F) Λ₀ .tc) PUnit :=
  if k0_cond4 i = 1#1 then do
    let v49 : Vec F S64x1 .f32 ← Prog.lift (.load R.a12 (Rect.unit (s := S64x1) ![0, 0] S64x1.size inb_S64x1_S64x1_0_0).toLoadRect (View.loadsAt_vmem h_S64x1))
    let v52 : Vec F S64x512 .f32 ← Prog.lift (.load R.a13 (Rect.unit (s := S64x512) ![0, 0] S64x512.size inb_S64x512_S64x512_0_0).toLoadRect (View.loadsAt_vmem h_S64x512))
    let v59 : Vec F S64x512 .f32 ← Prog.lift (.load R.a9 (Rect.unit (s := S64x512) ![0, 0] S64x512.size inb_S64x512_S64x512_0_0).toLoadRect (View.loadsAt_vmem h_S64x512))
    let _ : Vec F S64x1024 .f32 ← Prog.lift (.load R.a8 (Rect.unit (s := S64x1024) ![0, 0] S64x1024.size inb_S64x1024_S64x1024_0_0).toLoadRect (View.loadsAt_vmem h_S64x1024))
    Prog.lift (.store R.a8 (Rect.unit (s := S64x1024) ![0, 0] S64x1024.size inb_S64x1024_S64x1024_0_0) (k0_pay3 v49 v52 v59) Finset.univ (View.stores_vmem_bits_univ h_S64x1024 rfl) (.inl rfl))
    pure ⟨⟩
  else pure ⟨⟩

/-- The start of an iteration, then `K`. -/
def startJ (i : grid0.Coords) (R : Refs) {α : Type}
    (K : PUnit.{1} → Prog (TpuEff nD τ sig (Elt F) Λ₀ .tc) α) : Prog (TpuEff nD τ sig (Elt F) Λ₀ .tc) α :=
  if starts i = 1#1 then do
    let ⟨v55, v80, v82, v84, v86⟩ ← k0_part1 i R.a2 R.h2 R.a3 R.h3 R.a4 R.h4 R.a5 R.h5 R.a6 R.h6 R.a7 R.h7 R.a8 R.h8 R.a9 R.h9 R.a10 R.h10 R.a11 R.h11 R.a12 R.h12 R.a13 R.h13 (BitVec.ofNat 32 (i 0).val)
    let _ : Vec F S64x512 .f32 ← Prog.lift (.load R.a9 (Rect.unit (s := S64x512) ![0, 0] S64x512.size inb_S64x512_S64x512_0_0).toLoadRect (View.loadsAt_vmem h_S64x512))
    Prog.lift (.store R.a9 (Rect.unit (s := S64x512) ![0, 0] S64x512.size inb_S64x512_S64x512_0_0) (k0_pay56 v55 v80 v82 v84 v86) Finset.univ (View.stores_vmem_bits_univ h_S64x512 rfl) (.inl rfl))
    let _ : Vec F S64x512 .f32 ← Prog.lift (.load R.a10 (Rect.unit (s := S64x512) ![0, 0] S64x512.size inb_S64x512_S64x512_0_0).toLoadRect (View.loadsAt_vmem h_S64x512))
    Prog.lift (.store R.a10 (Rect.unit (s := S64x512) ![0, 0] S64x512.size inb_S64x512_S64x512_0_0) (k0_pay57 v55 v80 v82 v84) Finset.univ (View.stores_vmem_bits_univ h_S64x512 rfl) (.inl rfl))
    let _ : Vec F S64x1 .f32 ← Prog.lift (.load R.a11 (Rect.unit (s := S64x1) ![0, 0] S64x1.size inb_S64x1_S64x1_0_0).toLoadRect (View.loadsAt_vmem h_S64x1))
    Prog.lift (.store R.a11 (Rect.unit (s := S64x1) ![0, 0] S64x1.size inb_S64x1_S64x1_0_0) (k0_pay58 (F := F)) Finset.univ (View.stores_vmem_bits_univ h_S64x1 rfl) (.inl rfl))
    let _ : Vec F S64x1 .f32 ← Prog.lift (.load R.a12 (Rect.unit (s := S64x1) ![0, 0] S64x1.size inb_S64x1_S64x1_0_0).toLoadRect (View.loadsAt_vmem h_S64x1))
    Prog.lift (.store R.a12 (Rect.unit (s := S64x1) ![0, 0] S64x1.size inb_S64x1_S64x1_0_0) (k0_pay59 (F := F)) Finset.univ (View.stores_vmem_bits_univ h_S64x1 rfl) (.inl rfl))
    let _ : Vec F S64x512 .f32 ← Prog.lift (.load R.a13 (Rect.unit (s := S64x512) ![0, 0] S64x512.size inb_S64x512_S64x512_0_0).toLoadRect (View.loadsAt_vmem h_S64x512))
    Prog.lift (.store R.a13 (Rect.unit (s := S64x512) ![0, 0] S64x512.size inb_S64x512_S64x512_0_0) (k0_pay60 (F := F)) Finset.univ (View.stores_vmem_bits_univ h_S64x512 rfl) (.inl rfl))
    K ⟨⟩
  else K ⟨⟩

/-- The body is its first part and then the three phases. -/
theorem body_phases (i : grid0.Coords) (R : Refs) :
    cc0__body (F := F) i R.a2 R.h2 R.a3 R.h3 R.a4 R.h4 R.a5 R.h5 R.a6 R.h6 R.a7 R.h7 R.a8 R.h8 R.a9 R.h9 R.a10 R.h10 R.a11 R.h11 R.a12 R.h12 R.a13 R.h13 = (do
      let x ← k0_part6 (F := F) i R.a2 R.h2 R.a3 R.h3 R.a4 R.h4 R.a5 R.h5 R.a6 R.h6 R.a7 R.h7 R.a8 R.h8 R.a9 R.h9 R.a10 R.h10 R.a11 R.h11 R.a12 R.h12 R.a13 R.h13
      match x with
      | ⟨_, _, v4, v15, v16, v17, hw, v18, v32, c1⟩ =>
        let v36 := Scalar.minsi (Scalar.muli (Scalar.select v32 (Scalar.subi v18 c1) v18) 8#32) 48#32
        fastJ i R v4 v15 v16 v17 v36 hw fun _ =>
          slowJ i R v4 v15 (Scalar.cmpi .ne (Scalar.extui (Scalar.xori (Scalar.cmpi .slt (Scalar.subi v17 v36) 16#32) 1#1)) 0#32) fun _ =>
            lastJ i R) := by
  rw [cc0__body_eq_skeleton]; rfl

/-- The state the body carries, held in the scratch arrays. -/
def held (c : Dev nD) (R : Refs) (s : St F) : sProp 𝕄 :=
  iprop(owns (c : Thread nD τ) R.a9 fullShare s.h ∗ owns (c : Thread nD τ) R.a10 fullShare s.c ∗ owns (c : Thread nD τ) R.a11 fullShare s.m
    ∗ owns (c : Thread nD τ) R.a12 fullShare s.l ∗ owns (c : Thread nD τ) R.a13 fullShare s.acc)

variable (c : Dev nD) (𝒱 : Variants) (E : Set ℕ) (i : grid0.Coords) (R : Refs)

set_option maxHeartbeats 1000000 in
/-- The window of sixteen segments takes the rows, or is skipped. -/
theorem wp_fastJ {Q : PUnit → sProp 𝕄} (r : Rows F) (hw : k0_chk1 r.first r.last) (s : St F) (K : PUnit.{1} → Prog (TpuEff nD τ sig (Elt F) Λ₀ .tc) PUnit) :
    held c R s ⊢ iprop((held c R (narrowSt r hw s) -∗ wp frame (wpE (defs₀ (F := F)) 𝒱 (c : Thread nD τ) none) E (K ⟨⟩) Q)
      -∗ wp frame (wpE (defs₀ (F := F)) 𝒱 (c : Thread nD τ) none) E (fastJ i R r.seg r.feat r.first r.last (windowAt r.first) hw K) Q) := by
  unfold fastJ narrowSt fastSt fastPart
  by_cases h2 : k0_cond2 r.first r.last = 1#1
  · simp only [dif_pos h2]
    rw [k0_part2_eq_skeleton, k0_part3_eq_skeleton]
    unfold k0_part2_skel k0_part3_skel held
    simp only [Prog.lift, Prog.bind_op, Prog.bind_ret]
    iintro ⟨H9, H10, H11, H12, H13⟩ Hk
    iapply (load_window 𝒱 c none E rfl (k0_off1_inb r.first r.last hw h2)) $$ H9
    iintro H9
    iapply (load_window 𝒱 c none E rfl (k0_off2_inb r.first r.last hw h2)) $$ H11
    iintro H11
    iapply (load_window 𝒱 c none E rfl (k0_off2_inb r.first r.last hw h2)) $$ H11
    iintro H11
    iapply (store_window 𝒱 c none E rfl) $$ H11
    iintro H11
    iapply (load_window 𝒱 c none E rfl (k0_off2_inb r.first r.last hw h2)) $$ H12
    iintro H12
    iapply (load_window 𝒱 c none E rfl (k0_off2_inb r.first r.last hw h2)) $$ H12
    iintro H12
    iapply (store_window 𝒱 c none E rfl) $$ H12
    iintro H12
    iapply (load_window 𝒱 c none E rfl (k0_off1_inb r.first r.last hw h2)) $$ H13
    iintro H13
    iapply (load_window 𝒱 c none E rfl (k0_off1_inb r.first r.last hw h2)) $$ H13
    iintro H13
    iapply (store_window 𝒱 c none E rfl) $$ H13
    iintro H13
    iapply Hk
    isplitl [H9]; · iexact H9
    isplitl [H10]; · iexact H10
    isplitl [H11]; · iexact H11
    isplitl [H12]; · iexact H12
    iexact H13
  · simp only [dif_neg h2]
    iintro H Hk
    iapply Hk
    iexact H

set_option maxHeartbeats 1000000 in
/-- All the segments take the rows, or are skipped. -/
theorem wp_slowJ {Q : PUnit → sProp 𝕄} (r : Rows F) (s : St F) (K : PUnit.{1} → Prog (TpuEff nD τ sig (Elt F) Λ₀ .tc) PUnit) :
    held c R s ⊢ iprop((held c R (wideSt r s) -∗ wp frame (wpE (defs₀ (F := F)) 𝒱 (c : Thread nD τ) none) E (K ⟨⟩) Q)
      -∗ wp frame (wpE (defs₀ (F := F)) 𝒱 (c : Thread nD τ) none) E (slowJ i R r.seg r.feat (wide r.first r.last) K) Q) := by
  unfold slowJ wideSt slowSt slowPart
  by_cases h2 : wide r.first r.last = 1#1
  · simp only [if_pos h2]
    rw [k0_part4_eq_skeleton, k0_part5_eq_skeleton]
    unfold k0_part4_skel k0_part5_skel held
    simp only [Prog.lift, Prog.bind_op, Prog.bind_ret]
    iintro ⟨H9, H10, H11, H12, H13⟩ Hk
    iapply (load_full 𝒱 c none E) $$ H9
    iintro H9
    iapply (load_full 𝒱 c none E) $$ H11
    iintro H11
    iapply (load_full 𝒱 c none E) $$ H11
    iintro H11
    iapply (store_full 𝒱 c none E) $$ H11
    iintro H11
    iapply (load_full 𝒱 c none E) $$ H12
    iintro H12
    iapply (load_full 𝒱 c none E) $$ H12
    iintro H12
    iapply (store_full 𝒱 c none E) $$ H12
    iintro H12
    iapply (load_full 𝒱 c none E) $$ H13
    iintro H13
    iapply (load_full 𝒱 c none E) $$ H13
    iintro H13
    iapply (store_full 𝒱 c none E) $$ H13
    iintro H13
    iapply Hk
    isplitl [H9]; · iexact H9
    isplitl [H10]; · iexact H10
    isplitl [H11]; · iexact H11
    isplitl [H12]; · iexact H12
    iexact H13
  · simp only [if_neg h2]
    iintro H Hk
    iapply Hk
    iexact H

/-- The result is written at the last point, and left alone at the others. -/
theorem wp_lastJ {Q : PUnit → sProp 𝕄} (s : St F) (X : Vec F S64x1024 .f32) :
    held c R s ⊢ iprop(owns (c : Thread nD τ) R.a8 fullShare X
      -∗ (held c R s -∗ owns (c : Thread nD τ) R.a8 fullShare (if k0_cond4 i = 1#1 then outSt s else X) -∗ Q ⟨⟩)
      -∗ wp frame (wpE (defs₀ (F := F)) 𝒱 (c : Thread nD τ) none) E (lastJ i R) Q) := by
  unfold lastJ held outSt
  by_cases h2 : k0_cond4 i = 1#1
  · simp only [if_pos h2]
    simp only [Prog.lift, Prog.bind_op, Prog.bind_ret]
    iintro ⟨H9, H10, H11, H12, H13⟩ H8 Hk
    iapply (load_full 𝒱 c none E) $$ H12
    iintro H12
    iapply (load_full 𝒱 c none E) $$ H13
    iintro H13
    iapply (load_full 𝒱 c none E) $$ H9
    iintro H9
    iapply (load_full 𝒱 c none E) $$ H8
    iintro H8
    iapply (store_full 𝒱 c none E) $$ H8
    iintro H8
    iapply le_wp_ret
    iapply Hk $$ [H9 H10 H11 H12 H13] [H8]
    · isplitl [H9]; · iexact H9
      isplitl [H10]; · iexact H10
      isplitl [H11]; · iexact H11
      isplitl [H12]; · iexact H12
      iexact H13
    · iexact H8
  · simp only [if_neg h2]
    iintro H H8 Hk
    iapply le_wp_ret
    iapply Hk $$ [H] [H8]
    · iexact H
    · iexact H8

set_option maxHeartbeats 1000000 in
/-- An iteration starts, or goes on. -/
theorem wp_startJ {α : Type} {Q : α → sProp 𝕄} (W : Weights F) (s : St F) (K : PUnit.{1} → Prog (TpuEff nD τ sig (Elt F) Λ₀ .tc) α) :
    held c R s ⊢ iprop(owns (c : Thread nD τ) R.a5 fullShare W.ih -∗ owns (c : Thread nD τ) R.a6 fullShare W.hh -∗ owns (c : Thread nD τ) R.a7 fullShare W.b
      -∗ (held c R (startSt i W s) -∗ owns (c : Thread nD τ) R.a5 fullShare W.ih -∗ owns (c : Thread nD τ) R.a6 fullShare W.hh -∗ owns (c : Thread nD τ) R.a7 fullShare W.b
          -∗ wp frame (wpE (defs₀ (F := F)) 𝒱 (c : Thread nD τ) none) E (K ⟨⟩) Q)
      -∗ wp frame (wpE (defs₀ (F := F)) 𝒱 (c : Thread nD τ) none) E (startJ i R K) Q) := by
  unfold startJ startSt resetSt
  by_cases h2 : starts i = 1#1
  · simp only [if_pos h2]
    rw [k0_part1_eq_skeleton]
    unfold k0_part1_skel held
    simp only [Prog.lift, Prog.bind_op, Prog.bind_ret]
    iintro ⟨H9, H10, H11, H12, H13⟩ H5 H6 H7 Hk
    iapply (load_full 𝒱 c none E) $$ H9
    iintro H9
    iapply (load_full 𝒱 c none E) $$ H10
    iintro H10
    iapply (load_full 𝒱 c none E) $$ H12
    iintro H12
    iapply (load_full 𝒱 c none E) $$ H13
    iintro H13
    iapply (load_full 𝒱 c none E) $$ H5
    iintro H5
    iapply (load_full 𝒱 c none E) $$ H6
    iintro H6
    iapply (load_full 𝒱 c none E) $$ H7
    iintro H7
    iapply (load_full 𝒱 c none E) $$ H9
    iintro H9
    iapply (store_full 𝒱 c none E) $$ H9
    iintro H9
    iapply (load_full 𝒱 c none E) $$ H10
    iintro H10
    iapply (store_full 𝒱 c none E) $$ H10
    iintro H10
    iapply (load_full 𝒱 c none E) $$ H11
    iintro H11
    iapply (store_full 𝒱 c none E) $$ H11
    iintro H11
    iapply (load_full 𝒱 c none E) $$ H12
    iintro H12
    iapply (store_full 𝒱 c none E) $$ H12
    iintro H12
    iapply (load_full 𝒱 c none E) $$ H13
    iintro H13
    iapply (store_full 𝒱 c none E) $$ H13
    iintro H13
    iapply Hk $$ [H9 H10 H11 H12 H13] [H5] [H6] [H7]
    · isplitl [H9]; · iexact H9
      isplitl [H10]; · iexact H10
      isplitl [H11]; · iexact H11
      isplitl [H12]; · iexact H12
      iexact H13
    · iexact H5
    · iexact H6
    · iexact H7
  · simp only [if_neg h2]
    iintro H H5 H6 H7 Hk
    iapply Hk $$ [H] [H5] [H6] [H7]
    · iexact H
    · iexact H5
    · iexact H6
    · iexact H7

/-- The first part is the start of an iteration and the reads of the point's words. -/
theorem part6_start :
    k0_part6 (F := F) i R.a2 R.h2 R.a3 R.h3 R.a4 R.h4 R.a5 R.h5 R.a6 R.h6 R.a7 R.h7 R.a8 R.h8 R.a9 R.h9 R.a10 R.h10 R.a11 R.h11 R.a12 R.h12 R.a13 R.h13 = startJ i R fun _ => (do
      let v3 : Vec F S1x1x4096 .i32 ← Prog.lift (.load R.a3 (Rect.unit (s := S1x1x4096) ![0, 0, 0] S1x1x4096.size inb_S1x1x4096_S1x1x4096_0_0_0).toLoadRect (View.loadsAt_vmem h_S1x1x4096))
      let v11 : Vec F S4096x512 .f32 ← Prog.lift (.load R.a2 (Rect.unit (s := S4096x512) ![0, 0] S4096x512.size inb_S4096x512_S4096x512_0_0).toLoadRect (View.loadsAt_vmem h_S4096x512))
      let v16 : Elt F .i32 ← smemLoad R.a4 (Rect.unit (s := S1x1x2) ![0, 0, 0] S1x1x1.size inb_S1x1x2_S1x1x1_0_0_0) numel1_S1x1x1 rfl
      let v17 : Elt F .i32 ← smemLoad R.a4 (Rect.unit (s := S1x1x2) ![0, 0, 1] S1x1x1.size inb_S1x1x2_S1x1x1_0_0_1) numel1_S1x1x1 rfl
      have hw : k0_chk1 v16 v17 := (← Prog.lift (TpuEff.assume (k0_chk1 v16 v17) (k0_chk1.dec v16 v17))).down
      pure ⟨BitVec.ofNat 32 (i 0).val, BitVec.ofNat 32 (i 1).val, k0_pay61 v3, k0_pay62 i v11, v16, v17, hw, Scalar.divsi v16 8#32,
        Scalar.andi (Scalar.cmpi .ne
          (Scalar.subi (Scalar.extui (Scalar.cmpi .sgt v16 0#32)) (Scalar.extui (Scalar.cmpi .slt v16 0#32)))
          (Scalar.subi (Scalar.extui (Scalar.cmpi .sgt 8#32 0#32)) (Scalar.extui (Scalar.cmpi .slt 8#32 0#32))))
          (Scalar.cmpi .ne (Scalar.remsi v16 8#32) 0#32), 1#32⟩) := by
  rw [k0_part6_eq_skeleton]; rfl

/-- The blocks a point reads, held. -/
def blocks (feat : Vec F S4096x512 .f32) (seg : Vec F S1x1x4096 .i32) (mt : Vec F S1x1x2 .i32) (W : Weights F) : sProp 𝕄 :=
  iprop(owns (c : Thread nD τ) R.a2 fullShare feat ∗ owns (c : Thread nD τ) R.a3 fullShare seg ∗ owns (c : Thread nD τ) R.a4 fullShare mt
    ∗ owns (c : Thread nD τ) R.a5 fullShare W.ih ∗ owns (c : Thread nD τ) R.a6 fullShare W.hh ∗ owns (c : Thread nD τ) R.a7 fullShare W.b)

set_option maxHeartbeats 1000000 in
/-- The body at a point: the blocks are left as they were, the state steps, and the last point writes the result. -/
theorem wp_body {Q : PUnit → sProp 𝕄} (feat : Vec F S4096x512 .f32) (seg : Vec F S1x1x4096 .i32) (mt : Vec F S1x1x2 .i32) (W : Weights F)
    (hw : k0_chk1 (rowsOf (F := F) i feat seg mt).first (rowsOf (F := F) i feat seg mt).last) (s : St F) (X : Vec F S64x1024 .f32) :
    blocks c R feat seg mt W ⊢ iprop(held c R s -∗ owns (c : Thread nD τ) R.a8 fullShare X
      -∗ (blocks c R feat seg mt W -∗ held c R (stepSt i W (rowsOf i feat seg mt) hw s)
          -∗ owns (c : Thread nD τ) R.a8 fullShare (if k0_cond4 i = 1#1 then outSt (stepSt i W (rowsOf i feat seg mt) hw s) else X) -∗ Q ⟨⟩)
      -∗ wp frame (wpE (defs₀ (F := F)) 𝒱 (c : Thread nD τ) none) E (cc0__body i R.a2 R.h2 R.a3 R.h3 R.a4 R.h4 R.a5 R.h5 R.a6 R.h6 R.a7 R.h7 R.a8 R.h8 R.a9 R.h9 R.a10 R.h10 R.a11 R.h11 R.a12 R.h12 R.a13 R.h13) Q) := by
  rw [body_phases, part6_start, wp_bind]
  unfold blocks
  iintro ⟨H2, H3, H4, H5, H6, H7⟩ H H8 Hk
  iapply (wp_startJ c 𝒱 E i R W s) $$ H H5 H6 H7
  iintro H H5 H6 H7
  simp only [Prog.lift, Prog.bind_op, Prog.bind_ret]
  iapply (load_full 𝒱 c none E) $$ H3
  iintro H3
  iapply (load_full 𝒱 c none E) $$ H2
  iintro H2
  iapply (load_word 𝒱 c none E (ValueIdx.ix3 0 0 0) (by decide)) $$ H4
  iintro H4
  iapply (load_word 𝒱 c none E (ValueIdx.ix3 0 0 1) (by decide)) $$ H4
  iintro H4
  simp only [Prog.lift, Prog.bind_op, Prog.bind_ret]
  iapply (wp_assume _ _ _ _ hw)
  iapply le_wp_ret
  iapply (wp_fastJ c 𝒱 E i R (rowsOf i feat seg mt) hw (startSt i W s)) $$ H
  iintro H
  iapply (wp_slowJ c 𝒱 E i R (rowsOf i feat seg mt) _) $$ H
  iintro H
  iapply (wp_lastJ c 𝒱 E i R _ X) $$ H H8
  iintro H H8
  iapply Hk $$ [H2 H3 H4 H5 H6 H7] [H] [H8]
  · isplitl [H2]; · iexact H2
    isplitl [H3]; · iexact H3
    isplitl [H4]; · iexact H4
    isplitl [H5]; · iexact H5
    isplitl [H6]; · iexact H6
    iexact H7
  · iexact H
  · iexact H8

end Cert.KernelIdeal.Gen

end
-- ==== Proof.Ideal.Obligation.lean ====
/-
  The body's obligation at every grid point, for any property of the carried state that every point preserves: the inputs'
  blocks stay in place, the property moves on to the next point, and at the last point the result's buffer is what is written
  of a state with the property. The property is a parameter: the frame takes it to hold always.
-/
module

public import proofs.«01_k».proof.Proof.Ideal.Body
public import Idealize.ShloMosaic.Lib.Pipeline.DatRel
public import Idealize.ShloMosaic.Lib.Pipeline.ArrRel

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-- The kernel's variants: none. -/
abbrev 𝒱₀ : Variants := Variants.none

/-- The arrays the body is called with at point `t`. -/
def refs (t : Fin cfg0.N) : Refs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := Memref.whole cc0_scratch0
  h9 := Memref.isWhole_whole _
  a10 := Memref.whole cc0_scratch1
  h10 := Memref.isWhole_whole _
  a11 := Memref.whole cc0_scratch2
  h11 := Memref.isWhole_whole _
  a12 := Memref.whole cc0_scratch3
  h12 := Memref.isWhole_whole _
  a13 := Memref.whole cc0_scratch4
  h13 := Memref.isWhole_whole _

/-- The pipeline's row of the body at point `t` is the body on that point's arrays. -/
theorem defs₀_row (t : Fin cfg0.N) : (defs₀ (F := F)) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-- The features' block at point `t`, with `d` in the rows past the array's end. -/
def featAt (c : Dev nD) (t : Fin cfg0.N) (d : Vec F S4096x512 .f32) : Vec F S4096x512 .f32 := win0_0.fill (grid0.coords t) d (iblk m c 0 t)

/-- The weights as point `t` finds them. -/
def weightsAt (c : Dev nD) (t : Fin cfg0.N) : Weights F := ⟨iblk m c 3 t, iblk m c 4 t, iblk m c 5 t⟩

/-- Point `t`'s rows. -/
def rowsAt (c : Dev nD) (t : Fin cfg0.N) (d : Vec F S4096x512 .f32) : Rows F :=
  rowsOf (grid0.coords t) (featAt m c t d) (iblk m c 1 t) (iblk m c 2 t)

/-- The side condition of point `t`'s two words, which do not depend on the rows past the end. -/
abbrev WordsOk (c : Dev nD) (t : Fin cfg0.N) : Prop :=
  k0_chk1 (rowsAt m c t (fun _ => Scalar.ofBits .f32 0#32)).first (rowsAt m c t (fun _ => Scalar.ofBits .f32 0#32)).last

/-- The last point, and only it, writes the result. -/
theorem cond4_iff : ∀ t : Fin cfg0.N, k0_cond4 (grid0.coords t) = 1#1 ↔ t.val = 77 := by decide

variable (Inv : Dev nD → Fin (cfg0.N + 1) → St F → Prop)

/-- The proof data: the arrays at their contents at the launch; each input's block left in place; the state held between points. -/
def dat (c : Dev nD) : Dat τ (Elt F) Unit ℕ (UR sig nD τ) ℕ cfg0 c where
  A w := V m c (Pipeline.arrRef spec0 w)
  after w t := match w with
    | ⟨0, _⟩ => featAt m c t (fun _ => Scalar.ofBits .f32 0#32)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Scalar.ofBits .f32 0#32
  Φ t := iprop((∃ s : St F, ⌜Inv c t s⌝ ∗ held c (refs ⟨0, by decide⟩) s) ∗ ∃ r, prngReg c r)
  q _ := fullShare
  owed _ := 0

/-- The result's window is the one whose contents are a property, not a name. -/
abbrev fgt : Fin cfg0.W → Bool := fun
  | ⟨0, _⟩ => false | ⟨1, _⟩ => false | ⟨2, _⟩ => false | ⟨3, _⟩ => false | ⟨4, _⟩ => false | ⟨5, _⟩ => false | ⟨6, _⟩ => true

/-- What the last point leaves in the result's buffer: what it writes of a state with the property. -/
def Rl (c : Dev nD) (w : Fin cfg0.W) (t : Fin cfg0.N) (X : (cfg0.win w).block.Idx → Elt F (cfg0.win w).elt) : Prop :=
  match w, X with
  | ⟨6, _⟩, X => t.val = 77 → ∃ s : St F, Inv c (Fin.last cfg0.N) s ∧ X = outSt s
  | _, _ => True

theorem dat_A (c : Dev nD) (w : Fin cfg0.W) : (dat m Inv c).A w = V m c (Pipeline.arrRef spec0 w) := rfl

/-- The features' buffer is fetched at every point. -/
theorem before_0 (c : Dev nD) (t : Fin cfg0.N) (d) : (dat m Inv c).before 0 t d = featAt m c t d := by
  unfold Dat.before; rw [if_pos (fetch0_0 t)]; rfl

variable (hchk : ∀ c t, WordsOk m c t)
variable (hstep : ∀ c (t : Fin cfg0.N) d s, Inv c t.castSucc s →
  Inv c t.succ (stepSt (grid0.coords t) (weightsAt m c t) (rowsAt m c t d) (hchk c t) s))

set_option maxHeartbeats 4000000 in
include hstep in
/-- The body's obligation at every point. -/
theorem body_obligation (c : Dev nD) : BodyObligationRel (dat m Inv c) (defs₀ (F := F)) 𝒱₀ () Set.univ fgt (Rl Inv c) := fun t => by
  rw [bigSep_W0, bigSep_W0, defs₀_row]
  simp only
  rw [show (dat m Inv c).owesAt () t.succ = (dat m Inv c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%X, %_, H6⟩⟩
  rw [before_0, before0_1_of m (dat m Inv c) rfl (fun _ => rfl), before0_2_of m (dat m Inv c) rfl (fun _ => rfl),
    before0_3_of m (dat m Inv c) rfl (fun _ => rfl), before0_4_of m (dat m Inv c) rfl (fun _ => rfl), before0_5_of m (dat m Inv c) rfl (fun _ => rfl)]
  unfold dat
  simp only
  icases HΦ with ⟨⟨%s, %hs, H⟩, Hr⟩
  iapply (wp_body c 𝒱₀ Set.univ (grid0.coords t) (refs t) (featAt m c t d0) (iblk m c 1 t) (iblk m c 2 t) (weightsAt m c t) (hchk c t) s X)
    $$ [H0 H1 H2 H3 H4 H5] [H] [H6]
  · unfold blocks
    isplitl [H0]; · iexact H0
    isplitl [H1]; · iexact H1
    isplitl [H2]; · iexact H2
    isplitl [H3]; · iexact H3
    isplitl [H4]; · iexact H4
    iexact H5
  · iexact H
  · iexact H6
  unfold blocks
  iintro ⟨H0, H1, H2, H3, H4, H5⟩ H H6
  have hs' := hstep c t d0 s hs
  isplitl [H Hr]
  · isplitl [H]
    · iexists _
      isplitr
      · ipureintro; exact hs'
      · iexact H
    · iexact Hr
  isplitl [Ho]; · iexact Ho
  isplitl [H0]
  · iexists d0
    rw [show win0_0.cut (grid0.coords t) (featAt m c t (fun _ => Scalar.ofBits .f32 0#32)) = iblk m c 0 t from win0_0.cut_fill _ _ _]
    iexact H0
  isplitl [H1]; · iexact H1
  isplitl [H2]; · iexact H2
  isplitl [H3]; · iexact H3
  isplitl [H4]; · iexact H4
  isplitl [H5]; · iexact H5
  iexists _
  isplitr
  swap
  · iexact H6
  · ipureintro
    intro ht
    refine ⟨_, ?_, if_pos ((cond4_iff t).mpr ht)⟩
    have : t.succ = Fin.last cfg0.N := Fin.ext (by show t.val + 1 = 78; omega)
    rw [← this]; exact hs'

end Cert.KernelIdeal.Gen

end
-- ==== Proof.Ideal.Blocks.lean ====
/-
  What each window shows at a point: the block's rows of the array that the window reads, entry by entry.
-/
module

public import proofs.«01_k».proof.Proof.Ideal.Obligation

@[expose] public section

set_option maxRecDepth 65536

noncomputable section

namespace Cert.KernelIdeal.Gen

open Idealize.ShloMosaic Idealize.ShloMosaic.TcCoe Idealize.ShloMosaic.ValueIdx Idealize.SL.Sem

variable {F : FTy → Type} [FloatOps F]
variable (m : (ℓ : Loc nD τ sig) → Buf (Elt F) ℓ)

/-- The block of rows that point `t` works on. -/
def blockOf (t : Fin cfg0.N) : Fin 13 := (grid0.coords t) 1

theorem blockOf_val (t : Fin cfg0.N) : (BitVec.ofNat 32 ((grid0.coords t) 1).val).toNat = (blockOf t).val := by
  have h := (blockOf t).isLt
  show (BitVec.ofNat 32 (blockOf t).val).toNat = _
  rw [BitVec.toNat_ofNat]; omega

/-- Window 2 shows the block's two words. -/
theorem words_apply (c : Dev nD) (t : Fin cfg0.N) (j : Fin 2) :
    (iblk m c 2 t : IVec S1x1x2 32) (ix3 0 0 j) = (V m c main_call0_v29 : IVec S13x1x2 32) (ix3 (blockOf t) 0 j) := by
  unfold iblk
  rw [View.read_apply]
  show V m c main_call0_v29 _ = _
  congr 1
  funext a
  apply Fin.ext
  match a with
  | ⟨0, _⟩ => show (BitVec.ofNat 32 ((grid0.coords t) 1).val).toNat * 1 + 1 * 0 = (blockOf t).val; rw [blockOf_val]; omega
  | ⟨1, _⟩ => rfl
  | ⟨2, _⟩ => show 0 * 2 + 1 * j.val = j.val; omega

/-- Window 1 shows the segments of the block's rows. -/
theorem segs_apply (c : Dev nD) (t : Fin cfg0.N) (p : Fin 4096) :
    (iblk m c 1 t : IVec S1x1x4096 32) (ix3 0 0 p) = (V m c main_call0_v2 : IVec S13x1x4096 32) (ix3 (blockOf t) 0 p) := by
  unfold iblk
  rw [View.read_apply]
  show V m c main_call0_v2 _ = _
  congr 1
  funext a
  apply Fin.ext
  match a with
  | ⟨0, _⟩ => show (BitVec.ofNat 32 ((grid0.coords t) 1).val).toNat * 1 + 1 * 0 = (blockOf t).val; rw [blockOf_val]; omega
  | ⟨1, _⟩ => rfl
  | ⟨2, _⟩ => show 0 * 4096 + 1 * p.val = p.val; omega

/-- Windows 3, 4 and 5 show whole arrays. -/
theorem iblk_3 (c : Dev nD) (t : Fin cfg0.N) : (iblk m c 3 t : Vec F S2048x1024 .f32) = m ((c : Thread nD τ).loc main_arg2) := by
  rw [← V_main_arg2 m c]
  funext i
  unfold iblk
  rw [View.read_apply]
  show V m c main_arg2 _ = _
  congr 1
  funext a
  apply Fin.ext
  match a with
  | ⟨0, _⟩ => show 0 * 2048 + 1 * (i 0).val = (i 0).val; omega
  | ⟨1, _⟩ => show 0 * 1024 + 1 * (i 1).val = (i 1).val; omega

theorem iblk_4 (c : Dev nD) (t : Fin cfg0.N) : (iblk m c 4 t : Vec F S2048x512 .f32) = m ((c : Thread nD τ).loc main_arg3) := by
  rw [← V_main_arg3 m c]
  funext i
  unfold iblk
  rw [View.read_apply]
  show V m c main_arg3 _ = _
  congr 1
  funext a
  apply Fin.ext
  match a with
  | ⟨0, _⟩ => show 0 * 2048 + 1 * (i 0).val = (i 0).val; omega
  | ⟨1, _⟩ => show 0 * 512 + 1 * (i 1).val = (i 1).val; omega

theorem iblk_5 (c : Dev nD) (t : Fin cfg0.N) : (iblk m c 5 t : Vec F S1x2048 .f32) = V m c main_call0_v31 := by
  funext i
  unfold iblk
  rw [View.read_apply]
  show V m c main_call0_v31 _ = _
  congr 1
  funext a
  apply Fin.ext
  match a with
  | ⟨0, _⟩ => show 0 * 1 + 1 * (i 0).val = (i 0).val; omega
  | ⟨1, _⟩ => show 0 * 2048 + 1 * (i 1).val = (i 1).val; omega

/-- Window 0 shows the features of the block's rows; the rows past the array's end are not moved. -/
theorem featAt_apply (c : Dev nD) (t : Fin cfg0.N) (d : Vec F S4096x512 .f32) (p : Fin 4096) (k : Fin 512)
    (h : 4096 * (blockOf t).val + p.val < 50000) :
    featAt m c t d (ix2 p k) = (m ((c : Thread nD τ).loc main_arg0) : Vec F S50000x512 .f32) (ix2 ⟨4096 * (blockOf t).val + p.val, h⟩ k) := by
  rw [← V_main_arg0 m c]
  have hx : ∀ a, ((ix2 p k : S4096x512.Idx) a).val < win0_0.xsize (grid0.coords t) a := fun a => by
    match a with
    | ⟨0, _⟩ =>
      show p.val < (Pipeline.Clip.of (BitVec.ofNat 32 ((grid0.coords t) 1).val).toNat 4096 50000).extent 4096
      rw [blockOf_val]
      unfold Pipeline.Clip.of
      split
      · exact p.isLt
      · show p.val < 50000 - (blockOf t).val * 4096; omega
    | ⟨1, _⟩ =>
      show k.val < (Pipeline.Clip.of 0 512 512).extent 512
      exact k.isLt
  unfold featAt Pipeline.Window.fill
  rw [dif_pos ((win0_0.moved_iff _ _).mpr hx)]
  unfold iblk
  rw [View.read_apply]
  show V m c main_arg0 _ = _
  congr 1
  funext a
  apply Fin.ext
  match a with
  | ⟨0, _⟩ => show (BitVec.ofNat 32 ((grid0.coords t) 1).val).toNat * 4096 + 1 * p.val = 4096 * (blockOf t).val + p.val; rw [blockOf_val]; omega
  | ⟨1, _⟩ => show 0 * 512 + 1 * k.val = k.val; omega

end Cert.KernelIdeal.Gen

end
-- ==== Proof.Ideal.Prefix.lean ====
/-
  What the host makes for the pallas_call before it starts: per block of rows the first and the last segment that it holds,
  the rows' segments with the positions past the end marked by the number 64, and the two bias vectors added up.
-/
module

public import proofs.«01_k».proof.Proof.Ideal.Blocks
public import Idealize.ShloMosaic.Lib.StableHlo.RunRead
public import Idealize.ShloMosaic.Lib.StableHlo.Predicate
public import Idealize.ShloMosaic.Lib.Pipeline.Value

@[expose] public section

set_option maxRecDepth 65536

noncomputable section

namespace Cert.KernelIdeal.Gen

open Idealize.ShloMosaic Idealize.ShloMosaic.TcCoe Idealize.ShloMosaic.ValueIdx Idealize.ShloMosaic.StableHlo.Predicate Idealize.SL.Sem

variable {F : FTy → Type} [FloatOps F]
variable (m : (ℓ : Loc nD τ sig) → Buf (Elt F) ℓ)

/-- The positions where the blocks start. -/
def startPos : IVec S13 32 := muli (iotaInDim S13 32 0) (broadcastInDim S13 ![] bcast_S_S13 (constantI S_ 32 4096#32))

/-- The positions where the blocks end. -/
def endPos : IVec S13 32 :=
  subi (minsi (addi startPos (broadcastInDim S13 ![] bcast_S_S13 (constantI S_ 32 4096#32)))
    (broadcastInDim S13 ![] bcast_S_S13 (constantI S_ 32 50000#32))) (broadcastInDim S13 ![] bcast_S_S13 (constantI S_ 32 1#32))

/-- Positions with those below zero counted from the end. -/
def wrapped (pos : IVec S13 32) : IVec S13 32 :=
  select (cmpi .slt pos (broadcastInDim S13 ![] bcast_S_S13 (constantI S_ 32 0#32)))
    (addi pos (broadcastInDim S13 ![] bcast_S_S13 (constantI S_ 32 50000#32))) pos

/-- The words found at given positions. -/
def takeAt (ids : IVec S50000 32) (pos : IVec S13 32) : IVec S13 32 :=
  Host.gather gather_S50000_S13x1_S13_n_0_n_n_0_1_1 ids (broadcastInDim S13x1 ![0] bcast_S13_S13x1_0 (wrapped pos))

/-- The two words of every block, as the host lays them out. -/
theorem V_words (c : Dev nD) : (V m c main_call0_v29 : IVec S13x1x2 32) = shapeCast S13x1x2
    (concatenate S13x2 1
      [⟨S13x1, broadcastInDim S13x1 ![0] bcast_S13_S13x1_0 (takeAt (m ((c : Thread nD τ).loc main_arg1)) startPos)⟩,
       ⟨S13x1, broadcastInDim S13x1 ![0] bcast_S13_S13x1_0 (takeAt (m ((c : Thread nD τ).loc main_arg1)) endPos)⟩]
      concatenates_S13x1_S13x1_S13x2_d1) shapeCasts_S13x2_S13x1x2 := by
  have h26 : StableHlo.upto hostOps0 (fun b => m (c, b)) 37 (Proc.tc.devRef main_call0_v26)
      = broadcastInDim S13x1 ![0] bcast_S13_S13x1_0 (takeAt (m ((c : Thread nD τ).loc main_arg1)) startPos) := by
    after_reads_simp
    simp only [StableHlo.TRef.ofBuf_toBuf]
    unfold takeAt wrapped startPos
    rfl
  have h27 : StableHlo.upto hostOps0 (fun b => m (c, b)) 37 (Proc.tc.devRef main_call0_v27)
      = broadcastInDim S13x1 ![0] bcast_S13_S13x1_0 (takeAt (m ((c : Thread nD τ).loc main_arg1)) endPos) := by
    after_reads_simp
    simp only [StableHlo.TRef.ofBuf_toBuf]
    unfold takeAt wrapped endPos startPos
    rfl
  show StableHlo.after hostOps0 _ (Proc.devRef .tc main_call0_v29) = _
  after_reads_simp
  rw [h26, h27]
  rfl

/-- The rows' segments, as the host lays them out. -/
theorem V_segs (c : Dev nD) : (V m c main_call0_v2 : IVec S13x1x4096 32) = shapeCast S13x1x4096
    (concatenate S53248 0 [⟨S50000, (m ((c : Thread nD τ).loc main_arg1) : IVec S50000 32)⟩,
      ⟨S3248, broadcastInDim S3248 ![] bcast_S_S3248 (constantI S_ 32 64#32)⟩] concatenates_S50000_S3248_S53248_d0)
    shapeCasts_S53248_S13x1x4096 := by
  have h0 : StableHlo.upto hostOps0 (fun b => m (c, b)) 2 (Proc.tc.devRef main_call0_v0)
      = broadcastInDim S3248 ![] bcast_S_S3248 (constantI S_ 32 64#32) := by
    after_reads_simp
    rfl
  have h1 : StableHlo.upto hostOps0 (fun b => m (c, b)) 2 (Proc.tc.devRef main_arg1) = m ((c : Thread nD τ).loc main_arg1) := by
    after_reads_simp
  show StableHlo.after hostOps0 _ (Proc.devRef .tc main_call0_v2) = _
  after_reads_simp
  rw [h0, h1]
  rfl

/-- The bias: the two bias vectors added up, as one row. -/
theorem V_bias (c : Dev nD) : (V m c main_call0_v31 : Vec F S1x2048 .f32) = shapeCast S1x2048
    (addf (m ((c : Thread nD τ).loc main_arg4)) (m ((c : Thread nD τ).loc main_arg5)) : Vec F S2048 .f32) shapeCasts_S2048_S1x2048 := by
  show StableHlo.after hostOps0 _ (Proc.devRef .tc main_call0_v31) = _
  after_reads_simp
  rfl

/-- The segment of row `n`: `ids` there. -/
abbrev idAt (ids : IVec S50000 32) (n : Nat) (h : n < 50000) : BitVec 32 := ids (ix1 ⟨n, h⟩)

theorem wrapped_start : ∀ b : Fin 13, (wrapped startPos (ix1 b)) = BitVec.ofNat 32 (4096 * b.val) := by decide +kernel

theorem wrapped_end : ∀ b : Fin 13, (wrapped endPos (ix1 b)) = BitVec.ofNat 32 (min (4096 * b.val + 4096) 50000 - 1) := by decide +kernel

/-- The word found at a position inside the array. -/
theorem takeAt_apply (ids : IVec S50000 32) (pos : IVec S13 32) (b : Fin 13) (n : Nat) (h : n < 50000)
    (hp : wrapped pos (ix1 b) = BitVec.ofNat 32 n) : takeAt ids pos (ix1 b) = idAt ids n h := by
  have hb : (ix1 b : S13.Idx) = Shape.Idx.ofFin b := by rw [eq_ix1 (Shape.Idx.ofFin b)]; rfl
  unfold takeAt
  rw [hb, gather_take _ rfl rfl rfl rfl _ _ _ (by omega)]
  have e : (broadcastInDim S13x1 ![0] bcast_S13_S13x1_0 (wrapped pos) (ixP b)).toInt.toNat = n := by
    rw [bcast_col1, ← hb, hp, toInt_ofNat_small n (by omega)]; rfl
  unfold idAt
  congr 1
  rw [eq_ix1 (Shape.Idx.ofFin _)]
  congr 1
  apply Fin.ext
  show min (broadcastInDim S13x1 ![0] bcast_S13_S13x1_0 (wrapped pos) (ixP b)).toInt.toNat (50000 - 1) = n
  rw [e]; omega

/-- The first word of a block is the segment of its first row. -/
theorem first_apply (c : Dev nD) (t : Fin cfg0.N) : (iblk m c 2 t : IVec S1x1x2 32) (ix3 0 0 0)
    = idAt (m ((c : Thread nD τ).loc main_arg1)) (4096 * (blockOf t).val) (by have := (blockOf t).isLt; omega) := by
  rw [words_apply, V_words, shapeCast_apply _ _ _ (ix2 (blockOf t) 0 : S13x2.Idx) (by
    rw [Shape.rowMajor_val_two, Shape.rowMajor_val_three]
    show (blockOf t).val * 2 + 0 = ((blockOf t).val * 1 + 0) * 2 + 0; omega),
    concatenate_pair_apply_left (t := S13x2) (s₁ := S13x1) (s₂ := S13x1) 1 _ _ _ _ rfl (ix2 (blockOf t) 0 : S13x1.Idx) (fun b => by match b with | ⟨0, _⟩ => rfl | ⟨1, _⟩ => rfl)]
  rw [show (ix2 (blockOf t) 0 : S13x1.Idx) = ixP (blockOf t) from (eq_ix2 (ixP (blockOf t))).symm, bcast_col1,
    show (Shape.Idx.ofFin (blockOf t) : S13.Idx) = ix1 (blockOf t) from eq_ix1 _]
  exact takeAt_apply _ _ _ _ _ (wrapped_start _)

/-- The second word of a block is the segment of its last row. -/
theorem last_apply (c : Dev nD) (t : Fin cfg0.N) : (iblk m c 2 t : IVec S1x1x2 32) (ix3 0 0 1)
    = idAt (m ((c : Thread nD τ).loc main_arg1)) (min (4096 * (blockOf t).val + 4096) 50000 - 1) (by omega) := by
  rw [words_apply, V_words, shapeCast_apply _ _ _ (ix2 (blockOf t) 1 : S13x2.Idx) (by
    rw [Shape.rowMajor_val_two, Shape.rowMajor_val_three]
    show (blockOf t).val * 2 + 1 = ((blockOf t).val * 1 + 0) * 2 + 1; omega),
    concatenate_pair_apply_right (t := S13x2) (s₁ := S13x1) (s₂ := S13x1) 1 _ _ _ _ rfl rfl (ix2 (blockOf t) 0) (fun b hb => by
      match b with | ⟨0, _⟩ => rfl | ⟨1, _⟩ => exact absurd rfl hb) rfl]
  rw [show (ix2 (blockOf t) 0 : S13x1.Idx) = ixP (blockOf t) from (eq_ix2 (ixP (blockOf t))).symm, bcast_col1,
    show (Shape.Idx.ofFin (blockOf t) : S13.Idx) = ix1 (blockOf t) from eq_ix1 _]
  exact takeAt_apply _ _ _ _ _ (wrapped_end _)

/-- A row inside the array has its own segment. -/
theorem seg_apply (c : Dev nD) (t : Fin cfg0.N) (p : Fin 4096) (h : 4096 * (blockOf t).val + p.val < 50000) :
    (iblk m c 1 t : IVec S1x1x4096 32) (ix3 0 0 p) = idAt (m ((c : Thread nD τ).loc main_arg1)) (4096 * (blockOf t).val + p.val) h := by
  rw [segs_apply, V_segs, shapeCast_apply _ _ _ (ix1 ⟨4096 * (blockOf t).val + p.val, by omega⟩ : S53248.Idx) (by
    rw [Shape.rowMajor_val_one, Shape.rowMajor_val_three]
    show 4096 * (blockOf t).val + p.val = ((blockOf t).val * 1 + 0) * 4096 + p.val; omega),
    concatenate_pair_apply_left (t := S53248) (s₁ := S50000) (s₂ := S3248) 0 _ _ _ _ rfl (ix1 ⟨4096 * (blockOf t).val + p.val, h⟩ : S50000.Idx) (fun b => by match b with | ⟨0, _⟩ => rfl)]

/-- A row past the array's end is marked by 64. -/
theorem seg_pad (c : Dev nD) (t : Fin cfg0.N) (p : Fin 4096) (h : 50000 ≤ 4096 * (blockOf t).val + p.val) :
    (iblk m c 1 t : IVec S1x1x4096 32) (ix3 0 0 p) = 64#32 := by
  have hb := (blockOf t).isLt
  have hp := p.isLt
  rw [segs_apply, V_segs, shapeCast_apply _ _ _ (ix1 ⟨4096 * (blockOf t).val + p.val, by omega⟩ : S53248.Idx) (by
    rw [Shape.rowMajor_val_one, Shape.rowMajor_val_three]
    show 4096 * (blockOf t).val + p.val = ((blockOf t).val * 1 + 0) * 4096 + p.val; omega),
    concatenate_pair_apply_right (t := S53248) (s₁ := S50000) (s₂ := S3248) 0 _ _ _ _ rfl rfl (ix1 ⟨4096 * (blockOf t).val + p.val - 50000, by omega⟩ : S3248.Idx) (fun b hb => by
      match b with | ⟨0, _⟩ => exact absurd rfl hb) (by show 4096 * (blockOf t).val + p.val - 50000 + 50000 = _; exact Nat.sub_add_cancel h)]
  rfl

/-- The bias at a column. -/
theorem bias_apply (c : Dev nD) (t : Fin cfg0.N) (j : Fin 2048) : (iblk m c 5 t : Vec F S1x2048 .f32) (ix2 0 j)
    = (addf (m ((c : Thread nD τ).loc main_arg4)) (m ((c : Thread nD τ).loc main_arg5)) : Vec F S2048 .f32) (ix1 j) := by
  rw [iblk_5, V_bias, shapeCast_apply _ _ _ (ix1 j) (by
    rw [Shape.rowMajor_val_one, Shape.rowMajor_val_two]; show j.val = 0 * 2048 + j.val; omega)]

end Cert.KernelIdeal.Gen

end
-- ==== Proof.Ideal.Run.lean ====
/-
  The run. Any property of the carried state that every point preserves holds of the state after the last point, and the
  result is what the last point writes of that state; the arguments are left as they were and every semaphore counter ends at
  zero.
-/
module

public import proofs.«01_k».proof.Proof.Ideal.Obligation

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (Inv : Dev nD → Fin (cfg0.N + 1) → St F → Prop)

/-- The last point. -/
abbrev tLast : Fin cfg0.N := ⟨77, by decide⟩

/-- The result's window covers the whole result, written back once, at the last point. -/
theorem whole_6 : (cfg0.win 6).WholeAt tLast := by
  decide

/-- Entry: the scratch arrays at any contents hold some state. -/
theorem entry (hinv0 : ∀ c s, Inv c 0 s) (c : Dev nD) :
    (Pipeline.ΦA cfg0.spec c : sProp 𝕄) ⊢ (dat m Inv c).Φ 0 := by
  unfold Pipeline.ΦA dat
  rw [scopedRest0_eq]
  simp only
  iintro ⟨⟨⟨%f0, H0⟩, ⟨%f1, H1⟩, ⟨%f2, H2⟩, ⟨%f3, H3⟩, ⟨%f4, H4⟩⟩, Hr⟩
  isplitr [Hr]
  · iexists (⟨f0, f1, f2, f3, f4⟩ : St F)
    isplitr
    · ipureintro; exact hinv0 c _
    unfold held refs
    simp only [owns_whole_eq]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists f4; isplitr; · ipureintro; rfl
      iexact H4
  · iexact Hr

/-- Exit: the scratch arrays are given back. -/
theorem exit (c : Dev nD) : (dat m Inv c).Φ (Fin.last cfg0.N) ⊢ (Pipeline.ΦA cfg0.spec c : sProp 𝕄) := by
  unfold Pipeline.ΦA dat
  rw [scopedRest0_eq]
  simp only
  unfold held refs
  simp only [owns_whole_eq]
  iintro ⟨⟨%s, %_, ⟨%f0, %_, H0⟩, ⟨%f1, %_, H1⟩, ⟨%f2, %_, H2⟩, ⟨%f3, %_, H3⟩, ⟨%f4, %_, H4⟩⟩, Hr⟩
  isplitr [Hr]
  · isplitl [H0]; · iexists f0; iexact H0
    isplitl [H1]; · iexists f1; iexact H1
    isplitl [H2]; · iexists f2; iexact H2
    isplitl [H3]; · iexists f3; iexact H3
    iexists f4; iexact H4
  · iexact Hr

variable (hchk : ∀ c t, WordsOk m c t)
variable (hstep : ∀ c (t : Fin cfg0.N) d s, Inv c t.castSucc s →
  Inv c t.succ (stepSt (grid0.coords t) (weightsAt m c t) (rowsAt m c t d) (hchk c t) s))

/-- The arguments of core `c` are as they were. -/
abbrev ArgsKept (c : Dev nD) (μ : (ℓ : Loc nD τ sig) → Buf (Elt F) ℓ) : Prop :=
  μ ((c : Thread nD τ).loc main_arg0) = m ((c : Thread nD τ).loc main_arg0)
  ∧ μ ((c : Thread nD τ).loc main_arg1) = m ((c : Thread nD τ).loc main_arg1)
  ∧ μ ((c : Thread nD τ).loc main_arg2) = m ((c : Thread nD τ).loc main_arg2)
  ∧ μ ((c : Thread nD τ).loc main_arg3) = m ((c : Thread nD τ).loc main_arg3)
  ∧ μ ((c : Thread nD τ).loc main_arg4) = m ((c : Thread nD τ).loc main_arg4)
  ∧ μ ((c : Thread nD τ).loc main_arg5) = m ((c : Thread nD τ).loc main_arg5)

include hstep in
set_option backward.isDefEq.respectTransparency.types false in
/-- The run, for a property every point preserves. -/
theorem run_inv (hinv0 : ∀ c s, Inv c 0 s) :
    θ_run defs (onTc (τ := τ) (main (F := F))) ⟨m, fun _ => 0, ρ⟩ (fun r =>
      (∀ c : Dev nD, ArgsKept m c r.2.mem
        ∧ ∃ s : St F, Inv c (Fin.last cfg0.N) s ∧ r.2.mem ((c : Thread nD τ).loc main_v0) = outSt s)
      ∧ r.2.sem = fun _ => 0) :=
  RDat.θ_run_frame_track cfgs 0 launch0 defs₀ 𝒱₀ (fun c => (dat m Inv c).toRRel fgt (Rl Inv c)) m ρ main
    (fun c => (body_obligation m Inv hchk hstep c).toRRel)
    (fun c w => (dat m Inv c).share_full (fun _ => rfl) w) (fun _ _ => rfl)
    (V m) (hmain m 𝒱₀) (fun _ _ => rfl) (entry m Inv hinv0) (exit m Inv) _
    (by
      rintro r ⟨h, hz⟩
      refine ⟨fun c => ⟨⟨?_, ?_, ?_, ?_, ?_, ?_⟩, ?_⟩, hz⟩
      · exact (h.arr_in c 0 rfl).trans (V_main_arg0 m c)
      · exact ((h c).2 main_arg1 (Pipeline.mem_restRefs_of main_arg1 (by decide) (by decide))).trans (V_main_arg1 m c)
      · exact (h.arr_in c 3 rfl).trans (V_main_arg2 m c)
      · exact (h.arr_in c 4 rfl).trans (V_main_arg3 m c)
      · exact ((h c).2 main_arg4 (Pipeline.mem_restRefs_of main_arg4 (by decide) (by decide))).trans (V_main_arg4 m c)
      · exact ((h c).2 main_arg5 (Pipeline.mem_restRefs_of main_arg5 (by decide) (by decide))).trans (V_main_arg5 m c)
      · obtain ⟨X, hX, hj⟩ := ((h c).1 6).emb_eq_of_wholeAt whole_6
        obtain ⟨s, hs, rfl⟩ := (dat m Inv c).toRRel_leaves rfl hX rfl
        exact ⟨s, hs, funext fun j => hj j⟩)

end Cert.KernelIdeal.Gen

end
-- ==== Proof.Ideal.Words.lean ====
/-
  What the precondition says of the segment numbers, and what follows for the two words of a block: the window of sixteen
  segments that the kernel picks lies inside the sixty-four.
-/
module

public import proofs.«01_k».proof.Proof.Ideal.Prefix
public import proofs.«01_k».proof.Proof.Ideal.Run
public import proofs.«01_k».proof.Proof.Gen.Pre_sorted_segments
public import Idealize.ShloMosaic.Lib.ReduceAll

@[expose] public section

set_option maxRecDepth 65536

noncomputable section

namespace Cert.KernelIdeal.Gen

open Idealize.ShloMosaic Idealize.ShloMosaic.TcCoe Idealize.ShloMosaic.ValueIdx Idealize.ShloMosaic.StableHlo.Predicate Idealize.SL.Sem

variable {F : FTy → Type} [FloatOps F]

/-- The segment numbers are below sixty-four and don't decrease from one row to the next. -/
structure Sorted (ids : IVec S50000 32) : Prop where
  lt : ∀ n (h : n < 50000), (idAt ids n h).toNat < 64
  step : ∀ n (h : n + 1 < 50000), (idAt ids n (by omega)).toNat ≤ (idAt ids (n + 1) h).toNat

/-- From one row to any later one they don't decrease. -/
theorem Sorted.mono {ids : IVec S50000 32} (hs : Sorted ids) {a b : Nat} (hab : a ≤ b) (hb : b < 50000) :
    (idAt ids a (by omega)).toNat ≤ (idAt ids b hb).toNat := by
  induction b, hab using Nat.le_induction with
  | base => exact le_rfl
  | succ k hk ih => exact (ih (by omega)).trans (hs.step k hb)

/-- A 32-bit word that lies in [0, 64) as a signed number. -/
theorem word_lt (x : BitVec 32) (h0 : IntOp.cmpi .sge x 0#32 = 1#1) (h1 : IntOp.cmpi .slt x 64#32 = 1#1) : x.toNat < 64 := by
  have hx : x.toNat < 2 ^ 31 := by
    by_contra hc
    have : x.toInt < 0 := by rw [BitVec.toInt_eq_toNat_cond]; have := x.isLt; split <;> omega
    have h0' : BitVec.ofBool ((0#32).sle x) = 1#1 := h0
    rw [ofBool_eq_one_iff, BitVec.sle, decide_eq_true_eq] at h0'
    exact absurd h0' (not_le.2 this)
  exact (slt_iff_toNat hx (by decide)).1 h1

open Cert.Pre_sorted_segments.Facts in
/-- The precondition, read: the segment numbers are sorted and in range. -/
theorem sorted_of_pre [Cert.Pre_sorted_segments.Facts] (a0 : FVec F S50000x512 .f32) (ids : IVec S50000 32) (a2 : FVec F S2048x1024 .f32)
    (a3 : FVec F S2048x512 .f32) (a4 a5 : FVec F S2048 .f32)
    (h : Cert.Pre_sorted_segments.fn a0 ids a2 a3 a4 a5 = fun _ => 1#1) : Sorted ids := by
  have h := congrFun h (fun a => a.elim0)
  obtain ⟨h, h3⟩ := IntOp.andi_eq_one.1 h
  obtain ⟨h1, h2⟩ := IntOp.andi_eq_one.1 h
  haveI : Subsingleton Cert.Pre_sorted_segments.S_.Idx := ⟨fun a b => funext fun i => i.elim0⟩
  have lt : ∀ n (h : n < 50000), (idAt ids n h).toNat < 64 := fun n hn =>
    word_lt _ (Host.reduce_andi_all _ _ _ _ _ h1 (ix1 ⟨n, hn⟩)) (Host.reduce_andi_all _ _ _ _ _ h2 (ix1 ⟨n, hn⟩))
  refine ⟨lt, fun n hn => ?_⟩
  have e := Host.reduce_andi_all _ _ _ _ _ h3 (ix1 ⟨n, by omega⟩)
  have el : extractStridedSlice Cert.Pre_sorted_segments.S49999 ![0] ids slices_S50000_S49999_0 (ix1 ⟨n, by omega⟩) = idAt ids n (by omega) := by
    exact extractStridedSlice_apply _ _ _ _ (ix1 ⟨n, by omega⟩) (fun a => by match a with | ⟨0, _⟩ => exact (Nat.zero_add n).symm)
  have er : extractStridedSlice Cert.Pre_sorted_segments.S49999 ![1] ids slices_S50000_S49999_1 (ix1 ⟨n, by omega⟩) = idAt ids (n + 1) hn := by
    exact extractStridedSlice_apply _ _ _ _ (ix1 ⟨n + 1, hn⟩) (fun a => by match a with | ⟨0, _⟩ => exact Nat.add_comm n 1)
  have e' : IntOp.cmpi .sle (idAt ids n (by omega)) (idAt ids (n + 1) hn) = 1#1 := by
    rw [← el, ← er]; exact e
  have l1 := lt n (by omega)
  have l2 := lt (n + 1) hn
  exact (sle_iff_toNat (by omega) (by omega)).1 e'

/-- Where the window of a block starts whose first segment is `v`. -/
def winStart (v : Nat) : Nat := min (8 * (v / 8)) 48

theorem off1_eq : ∀ v : Fin 64, k0_off1 (BitVec.ofNat 32 v.val) = ![winStart v.val, 0] := by decide +kernel

theorem off2_eq : ∀ v : Fin 64, k0_off2 (BitVec.ofNat 32 v.val) = ![winStart v.val, 0] := by decide +kernel

theorem cond2_iff : ∀ v w : Fin 64, v ≤ w → (k0_cond2 (BitVec.ofNat 32 v.val) (BitVec.ofNat 32 w.val) = 1#1 ↔ w.val < winStart v.val + 16) := by
  decide +kernel

/-- A word below sixty-four as such a number. -/
theorem word_eq (x : BitVec 32) (h : x.toNat < 64) : x = BitVec.ofNat 32 (⟨x.toNat, h⟩ : Fin 64).val := by simp

theorem winStart_le (v : Nat) : winStart v + 16 ≤ 64 := by unfold winStart; omega

/-- The window lies inside the sixty-four segments. -/
theorem chk1_of_lt (x y : BitVec 32) (h : x.toNat < 64) : k0_chk1 x y := by
  have hw := winStart_le x.toNat
  refine ⟨fun _ => ?_, fun _ => ?_⟩
  · rw [word_eq x h, off1_eq]
    intro a
    match a with
    | ⟨0, _⟩ => exact hw
    | ⟨1, _⟩ => exact le_refl 512
  · rw [word_eq x h, off2_eq]
    intro a
    match a with
    | ⟨0, _⟩ => exact hw
    | ⟨1, _⟩ => exact le_refl 1

variable (m : (ℓ : Loc nD τ sig) → Buf (Elt F) ℓ)

/-- With sorted segments every block's window is inside. -/
theorem wordsOk (hs : ∀ c : Dev nD, Sorted (m ((c : Thread nD τ).loc main_arg1))) (c : Dev nD) (t : Fin cfg0.N) : WordsOk m c t :=
  chk1_of_lt _ _ (by
    show ((iblk m c 2 t : IVec S1x1x2 32) (ix3 0 0 0)).toNat < 64
    rw [first_apply]
    exact (hs c).lt _ _)

end Cert.KernelIdeal.Gen

end
-- ==== Proof.Same.lean ====
/-
  The two prints of the kernel, the one read at the machine's floats and the one read at the extended reals, are one program:
  what is proved of the second for every choice of float operations holds of the first.
-/
module

public import proofs.«01_k».proof.Proof.Gen.Kernel
public import proofs.«01_k».proof.Proof.Gen.KernelIdeal

@[expose] public section

set_option maxRecDepth 65536
set_option maxHeartbeats 4000000

noncomputable section

namespace Cert.Same

open Idealize.ShloMosaic Idealize.SL.Sem

variable {F : FTy → Type} [FloatOps F]

/-- The bodies that the kernel's labels name are the same. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l
  match l with
  | ⟨0, h⟩ =>
    funext a
    obtain ⟨t, s⟩ := a
    with_unfolding_all rfl
  | ⟨k + 1, h⟩ => exact absurd h (Nat.not_lt.2 (Nat.le_add_left _ _))

/-- The main programs are the same. -/
theorem main_eq : @Cert.Kernel.main F _ Cert.Kernel.Gen.facts = @Cert.KernelIdeal.main F _ Cert.KernelIdeal.Gen.facts := by
  with_unfolding_all rfl

/-- All the labels' programs are the same. -/
theorem defs_eq : @Cert.Kernel.defs F _ Cert.Kernel.Gen.facts = @Cert.KernelIdeal.defs F _ Cert.KernelIdeal.Gen.facts :=
  congrArg (Pipeline.defs (Cert.KernelIdeal.pcfgs (F := F))) defs₀_eq

/-- What a run of the one establishes, a run of the other does. -/
theorem run_of (s : MemSt Cert.KernelIdeal.nD Cert.KernelIdeal.τ Cert.KernelIdeal.sig (Elt F)) (Q : _ → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have e1 := defs_eq (F := F)
  have e2 := main_eq (F := F)
  rw [e1, e2]
  exact h

end Cert.Same

end
-- ==== Proof.Frames.lean ====
/-
  The frames: the kernel and the reference run to the end without a fault, leave their arguments as they were, and every
  semaphore counter is zero again.
-/
module

public import proofs.«01_k».proof.Proof.Ideal.Words
public import proofs.«01_k».proof.Proof.Same
public import proofs.«01_k».proof.Proof.Gen.ReferenceIdeal.Run
public import proofs.«01_k».proof.Defs

@[expose] public section

set_option maxRecDepth 65536

noncomputable section

namespace Cert.Frames

open Idealize.ShloMosaic Idealize.ShloMosaic.TcCoe Idealize.SL.Sem
open Cert.KernelIdeal.Gen (Sorted sorted_of_pre wordsOk run_inv ArgsKept)

/-- The kernel's frame, for any float operations. -/
theorem kernel_frame {F : FTy → Type} [FloatOps F]
    (m : (ℓ : Loc Cert.KernelIdeal.nD Cert.KernelIdeal.τ Cert.KernelIdeal.sig) → Buf (Elt F) ℓ) (g : Dev Cert.KernelIdeal.nD → PrngReg)
    (hs : ∀ c : Dev Cert.KernelIdeal.nD, Sorted (m ((c : Thread Cert.KernelIdeal.nD Cert.KernelIdeal.τ).loc Cert.KernelIdeal.main_arg1))) :
    θ_run (Cert.KernelIdeal.defs (F := F)) (onTc (τ := Cert.KernelIdeal.τ) (Cert.KernelIdeal.main (F := F))) ⟨m, fun _ => 0, g⟩
      (fun r => (∀ c, ArgsKept m c r.2.mem) ∧ r.2.sem = fun _ => 0) :=
  (θ_run _ _ _).mono (fun _ h => ⟨fun c => (h.1 c).1, h.2⟩)
    (run_inv m g (fun _ _ _ => True) (wordsOk m hs) (fun _ _ _ _ _ => trivial) (fun _ _ => trivial))

/-- The frame of the kernel read at the extended reals. -/
theorem quiescent_KernelIdeal : Cert.quiescent_KernelIdeal := fun m g hp =>
  kernel_frame m g fun c => sorted_of_pre _ _ _ _ _ _ (hp c)

/-- The frame of the kernel read at the machine's floats. -/
theorem quiescent_Kernel : Cert.quiescent_Kernel := fun m g hp =>
  Cert.Same.run_of _ _ (kernel_frame m g fun c => sorted_of_pre _ _ _ _ _ _ (hp c))

/-- The reference's frame. -/
theorem quiescent_ReferenceIdeal : Cert.quiescent_ReferenceIdeal := fun m g _ =>
  (θ_run _ _ _).mono (fun r h => ⟨fun c => (h c).2, sem_eq_zero_of_no_sems (by decide) r.2⟩) (Cert.ReferenceIdeal.Value.run m g)

end Cert.Frames

end
-- ==== Proof.Math.Online.lean ====
/-
  The readout's arithmetic. Rows have a segment and real features; a row's weight in a segment, taken at any real shift, is
  the exponential of its energy less the shift. `PartAt` says that three extended reals are a shift, the weights' sum and
  the weighted sum of the features over a run of rows: it is joined along consecutive runs, and a run without rows of
  the segment changes nothing. The quotient of the two sums depends on no shift.
-/
module

public import Idealize.ShloMosaic.PureOps.Ideal
public import Idealize.ShloMosaic.PureOps.Ideal.Laws
public import Mathlib.Data.EReal.Inv
public import Mathlib.Analysis.SpecialFunctions.Exp

@[expose] public section

noncomputable section

namespace Cert.Math

open Idealize.ShloMosaic

/-- A finite sum of reals, as an extended real. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The greater of two reals, as an extended real. -/
theorem coe_max (x y : ℝ) : ((max x y : ℝ) : EReal) = max (x : EReal) y := EReal.coe_strictMono.monotone.map_max

/-- An extended real that is neither end is a real. -/
theorem exists_real {x : EReal} (h1 : x ≠ ⊥) (h2 : x ≠ ⊤) : ∃ r : ℝ, x = r := ⟨x.toReal, (EReal.coe_toReal h2 h1).symm⟩

/-- The maximum of finitely many extended reals below `⊤`, one of them above `⊥`, is a real. -/
theorem fold_max_real {ι : Type*} (s : Finset ι) (g : ι → EReal) (h : ∀ i ∈ s, g i ≠ ⊤) (h' : ∃ i ∈ s, g i ≠ ⊥) :
    ∃ r : ℝ, s.fold max ⊥ g = r := by
  refine exists_real (bot_lt_iff_ne_bot.1 ?_) (lt_top_iff_ne_top.1 ?_)
  · obtain ⟨i, hi, hb⟩ := h'
    exact (Finset.lt_fold_max _).2 (.inr ⟨i, hi, bot_lt_iff_ne_bot.2 hb⟩)
  · exact (Finset.fold_max_lt _).2 ⟨bot_lt_top, fun i hi => lt_top_iff_ne_top.2 (h i hi)⟩

/-- The word of minus infinity. -/
theorem ofBits_neg_inf : Ideal.ofBits .f32 4286578688#32 = ⊥ := by simp [Ideal.ofBits, Ideal.ieee]

/-- The word of infinity. -/
theorem ofBits_inf : Ideal.ofBits .f32 2139095040#32 = ⊤ := by simp [Ideal.ofBits, Ideal.ieee]

/-- The word of the mask is a real. -/
theorem ofBits_mask : ∃ r : ℝ, Ideal.ofBits .f32 4048155338#32 = r := by
  simp only [Ideal.ofBits, Ideal.ieee]
  rw [if_neg (by decide), if_neg (by decide)]
  exact ⟨_, rfl⟩

/-- The rows: each one's segment, and its features. -/
structure Rows where
  seg : ℕ → ℕ
  f : ℕ → Fin 512 → ℝ

variable (R : Rows) (q : Fin 64 → Fin 512 → ℝ)

/-- The energy of a row in a segment: the product of the segment's query with the row's features. -/
def en (b : Fin 64) (p : ℕ) : ℝ := ∑ k, q b k * R.f p k

/-- A row's weight in a segment, at a shift: none if the row is of another segment. -/
def term (b : Fin 64) (M : ℝ) (p : ℕ) : ℝ := if R.seg p = b.val then Real.exp (en R q b p - M) else 0

/-- The weights at another shift. -/
theorem term_shift (b : Fin 64) (M N : ℝ) (p : ℕ) : term R q b M p * Real.exp (M - N) = term R q b N p := by
  unfold term
  split
  · rw [← Real.exp_add]; congr 1; ring
  · simp

theorem term_nonneg (b : Fin 64) (M : ℝ) (p : ℕ) : 0 ≤ term R q b M p := by
  unfold term; split
  · exact (Real.exp_pos _).le
  · exact le_rfl

/-- A shift, the sum of the weights at it and the weighted sum of the features, of the rows `B ≤ p < B + n`. -/
def PartAt (B n : ℕ) (b : Fin 64) (m l : EReal) (a : Fin 512 → EReal) : Prop :=
  ∃ M : ℝ, m = M ∧ l = ((∑ p ∈ Finset.range n, term R q b M (B + p) : ℝ) : EReal)
    ∧ ∀ k, a k = ((∑ p ∈ Finset.range n, term R q b M (B + p) * R.f (B + p) k : ℝ) : EReal)

variable {R q}

/-- No rows: any shift, and nothing. -/
theorem PartAt.zero (B : ℕ) (b : Fin 64) (M : ℝ) : PartAt R q B 0 b M 0 (fun _ => 0) := ⟨M, rfl, by simp, fun _ => by simp⟩

/-- A run of rows, none of the segment, adds nothing. -/
theorem PartAt.skip {B n n' : ℕ} {b : Fin 64} {m l : EReal} {a : Fin 512 → EReal} (h : PartAt R q B n b m l a)
    (hs : ∀ p, n ≤ p → p < n + n' → R.seg (B + p) ≠ b.val) : PartAt R q B (n + n') b m l a := by
  obtain ⟨M, hm, hl, ha⟩ := h
  have z : ∀ p ∈ Finset.range n', term R q b M (B + (n + p)) = 0 := fun p hp =>
    if_neg (hs (n + p) (by omega) (by have := Finset.mem_range.1 hp; omega))
  refine ⟨M, hm, ?_, fun k => ?_⟩
  · rw [hl, Finset.sum_range_add, Finset.sum_eq_zero z, add_zero]
  · have zk : ∀ p ∈ Finset.range n', term R q b M (B + (n + p)) * R.f (B + (n + p)) k = 0 := fun p hp => by rw [z p hp, zero_mul]
    rw [ha k, Finset.sum_range_add, Finset.sum_eq_zero zk, add_zero]

/-- Three consecutive runs are joined at the greatest of their shifts. -/
theorem PartAt.join {B n n₁ n₂ : ℕ} {b : Fin 64} {m l m₁ l₁ m₂ l₂ : EReal} {a a₁ a₂ : Fin 512 → EReal}
    (h : PartAt R q B n b m l a) (h₁ : PartAt R q (B + n) n₁ b m₁ l₁ a₁) (h₂ : PartAt R q (B + (n + n₁)) n₂ b m₂ l₂ a₂) :
    PartAt R q B (n + n₁ + n₂) b (max (max m m₁) m₂)
      (l * Ideal.exp (m - max (max m m₁) m₂) + l₁ * Ideal.exp (m₁ - max (max m m₁) m₂) + l₂ * Ideal.exp (m₂ - max (max m m₁) m₂))
      (fun k => a k * Ideal.exp (m - max (max m m₁) m₂) + a₁ k * Ideal.exp (m₁ - max (max m m₁) m₂)
        + a₂ k * Ideal.exp (m₂ - max (max m m₁) m₂)) := by
  obtain ⟨M, rfl, rfl, ha⟩ := h
  obtain ⟨M₁, rfl, rfl, ha₁⟩ := h₁
  obtain ⟨M₂, rfl, rfl, ha₂⟩ := h₂
  have shift : ∀ (X N : ℝ) (B' s : ℕ) (c : ℕ → ℝ), (∑ p ∈ Finset.range s, term R q b X (B' + p) * c p) * Real.exp (X - N)
      = ∑ p ∈ Finset.range s, term R q b N (B' + p) * c p := fun X N B' s c => by
    rw [Finset.sum_mul]
    exact Finset.sum_congr rfl fun p _ => by rw [← term_shift R q b X N]; ring
  have shift1 : ∀ (X N : ℝ) (B' s : ℕ), (∑ p ∈ Finset.range s, term R q b X (B' + p)) * Real.exp (X - N)
      = ∑ p ∈ Finset.range s, term R q b N (B' + p) := fun X N B' s => by
    simpa using shift X N B' s (fun _ => 1)
  simp only [← coe_max, ← EReal.coe_sub, Ideal.exp_coe, ha, ha₁, ha₂, ← EReal.coe_mul, ← EReal.coe_add, shift, shift1]
  refine ⟨_, rfl, ?_, fun k => ?_⟩
  · rw [Finset.sum_range_add, Finset.sum_range_add]
    simp only [add_assoc]
  · rw [Finset.sum_range_add, Finset.sum_range_add]
    simp only [add_assoc]

variable (R q)

/-- The softmax readout of the first `n` rows: zero for a segment without rows. -/
def readout (n : ℕ) (b : Fin 64) (k : Fin 512) : ℝ :=
  (∑ p ∈ Finset.range n, term R q b 0 p * R.f p k) / ∑ p ∈ Finset.range n, term R q b 0 p

variable {R q}

/-- The weights' sums at two shifts. -/
theorem sum_term_shift (n : ℕ) (b : Fin 64) (M : ℝ) (c : ℕ → ℝ) :
    ∑ p ∈ Finset.range n, term R q b M p * c p = Real.exp (-M) * ∑ p ∈ Finset.range n, term R q b 0 p * c p := by
  rw [Finset.mul_sum]
  exact Finset.sum_congr rfl fun p _ => by rw [← term_shift R q b 0 M, zero_sub]; ring

/-- The readout at any shift. -/
theorem readout_shift (n : ℕ) (b : Fin 64) (M : ℝ) (k : Fin 512) :
    (∑ p ∈ Finset.range n, term R q b M p * R.f p k) / ∑ p ∈ Finset.range n, term R q b M p = readout R q n b k := by
  have h := sum_term_shift (R := R) (q := q) n b M (fun _ => 1)
  simp only [mul_one] at h
  rw [sum_term_shift, h, readout, mul_div_mul_left _ _ (Real.exp_pos _).ne']

/-- A quotient of two reals, the divisor positive. -/
theorem div_coe {x y : ℝ} (hy : 0 < y) : Ideal.div (x : EReal) (y : EReal) = ((x / y : ℝ) : EReal) := by
  rw [Ideal.div, if_neg (by exact_mod_cast hy.ne'), EReal.coe_div]; rfl

/-- The readout from the sums: their quotient if the weights' sum is positive, and zero otherwise. -/
theorem PartAt.readout {n : ℕ} {b : Fin 64} {m l : EReal} {a : Fin 512 → EReal} (h : PartAt R q 0 n b m l a) (k : Fin 512) :
    (if 0 < l then Ideal.div (a k) l else 0) = (Math.readout R q n b k : EReal) := by
  obtain ⟨M, -, hl, ha⟩ := h
  simp only [zero_add] at hl ha
  rw [hl, ha k, ← readout_shift n b M k]
  by_cases h0 : 0 < ∑ p ∈ Finset.range n, term R q b M p
  · rw [if_pos (by exact_mod_cast h0), div_coe h0]
  · have z : ∑ p ∈ Finset.range n, term R q b M p = 0 :=
      le_antisymm (not_lt.1 h0) (Finset.sum_nonneg fun p _ => term_nonneg R q b M p)
    rw [if_neg (by exact_mod_cast h0), z, div_zero, EReal.coe_zero]

end Cert.Math

end
-- ==== Proof.Finite.lean ====
/-
  The precondition of the value claim, read: the segment numbers are sorted and in range, and every feature is a real.
-/
module

public import proofs.«01_k».proof.Pre_finite_features
public import proofs.«01_k».proof.Proof.Gen.Pre_sorted_segments
public import proofs.«01_k».proof.Proof.Ideal.Words
public import proofs.«01_k».proof.Proof.Math.Online

@[expose] public section

set_option maxRecDepth 65536

noncomputable section

namespace Cert.Finite

open Idealize.ShloMosaic Idealize.ShloMosaic.ValueIdx Idealize.ShloMosaic.StableHlo.Predicate Idealize.SL.Sem
open Cert.Pre_finite_features
open Cert.KernelIdeal.Gen (Sorted sorted_of_pre)

/-- The side conditions of the predicate's operations. -/
instance facts : Cert.Pre_finite_features.Facts where
  bcast_S_S50000 := by decide
  reducesTo_S50000_S_d0 := by decide
  h_S_ := by decide
  slices_S50000_S49999_0 := by decide
  slices_S50000_S49999_1 := by decide
  reducesTo_S49999_S_d0 := by decide
  bcast_S_S50000x512 := by decide
  reducesTo_S50000x512_S_d0_1 := by decide

section
variable {F : FTy → Type} [FloatOps F] (a0 : FVec F S50000x512 .f32) (ids : IVec S50000 32) (a2 : FVec F S2048x1024 .f32)
  (a3 : FVec F S2048x512 .f32) (a4 a5 : FVec F S2048 .f32)

/-- The precondition has the weaker one in it: the segment numbers are sorted and in range. -/
theorem sorted (h : Cert.Pre_finite_features.fn a0 ids a2 a3 a4 a5 = fun _ => 1#1) : Sorted ids :=
  sorted_of_pre a0 ids a2 a3 a4 a5 (funext fun j => (IntOp.andi_eq_one.1 (congrFun h j)).1)
end

/-- Below infinity in magnitude is a real. -/
theorem real_of_lt (x : EReal) (h : max x (-x) < ⊤) : ∃ r : ℝ, x = r := by
  refine Math.exists_real ?_ ?_
  · rintro rfl
    simp at h
  · rintro rfl
    simp at h

/-- Every feature is a real. -/
theorem real (a0 : FVec Ideal S50000x512 .f32) (ids : IVec S50000 32) (a2 : FVec Ideal S2048x1024 .f32)
    (a3 : FVec Ideal S2048x512 .f32) (a4 a5 : FVec Ideal S2048 .f32)
    (h : Cert.Pre_finite_features.fn a0 ids a2 a3 a4 a5 = fun _ => 1#1) (p : Fin 50000) (k : Fin 512) :
    ∃ r : ℝ, a0 (ix2 p k) = r := by
  haveI : Subsingleton Cert.Pre_finite_features.S_.Idx := ⟨fun a b => funext fun i => i.elim0⟩
  have h2 := (IntOp.andi_eq_one.1 (congrFun h (fun a => a.elim0))).2
  have e := Host.reduce_andi_all _ _ _ _ _ h2 (ix2 p k)
  have e' : Ideal.cmp .olt (max (a0 (ix2 p k)) (-(a0 (ix2 p k)))) (Ideal.ofBits .f32 0x7F800000#32) = 1#1 := e
  rw [Math.ofBits_inf] at e'
  refine real_of_lt _ ?_
  by_contra hn
  have e0 : Ideal.cmp .olt (max (a0 (ix2 p k)) (-(a0 (ix2 p k)))) ⊤ = 0#1 := by
    show BitVec.ofBool (decide _) = _
    rw [decide_eq_false hn]; rfl
  rw [e0] at e'
  exact absurd e' (by decide)

end Cert.Finite

end
-- ==== Proof.Math.Half.lean ====
/-
  One half of a block, as the kernel reckons it: the masked maximum of the energies, each row's exponential taken once (the
  sum over the segments picks the one segment that the row is of), the exponentials' sum and the weighted features. Of
  reals the three are a part of the readout (`half`).
-/
module

public import proofs.«01_k».proof.Proof.Math.Online

@[expose] public section

noncomputable section

namespace Cert.Math

open Idealize.ShloMosaic

variable {n : ℕ} (hit : Fin n → Fin 2048 → BitVec 1) (e : Fin n → Fin 2048 → EReal)

/-- The masked maximum of a segment's energies. -/
def halfMax (i : Fin n) : EReal :=
  Finset.fold max (Ideal.ofBits .f32 4286578688#32) (fun p => Scalar.select (hit i p) (e i p) (Ideal.ofBits .f32 4048155338#32)) Finset.univ

/-- A row's exponential in the segment it is of, and zero in the others. -/
def halfExp (i : Fin n) (p : Fin 2048) : EReal :=
  Scalar.select (hit i p) (Ideal.exp (∑ x, Scalar.select (hit x p) (e x p - halfMax hit e x) 0)) 0

/-- The exponentials' sum. -/
def halfSum (i : Fin n) : EReal := ∑ p, halfExp hit e i p

/-- The features' sum, each row's weighted by its exponential. -/
def halfAcc (f : Fin 2048 → Fin 512 → EReal) (i : Fin n) (k : Fin 512) : EReal := ∑ p, halfExp hit e i p * f p k

variable {hit e}

/-- Of reals the masked maximum is a real. -/
theorem halfMax_real (he : ∀ i p, ∃ r : ℝ, e i p = r) (i : Fin n) : ∃ r : ℝ, halfMax hit e i = r := by
  have hr : ∀ p, ∃ r : ℝ, Scalar.select (hit i p) (e i p) (Ideal.ofBits .f32 4048155338#32) = r := fun p => by
    unfold Scalar.select; split
    · exact he i p
    · exact ofBits_mask
  rw [halfMax, ofBits_neg_inf]
  refine fold_max_real _ _ (fun p _ => ?_) ⟨0, Finset.mem_univ _, ?_⟩
  · obtain ⟨r, h⟩ := hr p; rw [h]; exact EReal.coe_ne_top r
  · obtain ⟨r, h⟩ := hr 0; rw [h]; exact EReal.coe_ne_bot r

variable {R : Rows} {q : Fin 64 → Fin 512 → ℝ}

/-- The half's maximum, sum and weighted features are a part of the readout, of the rows `B ≤ p < B + 2048`. -/
theorem half (g : Fin n → Fin 64) (hg : Function.Injective g) (B : ℕ) {f : Fin 2048 → Fin 512 → EReal}
    (hh : ∀ i p, hit i p = 1 ↔ R.seg (B + p.val) = (g i).val) (he : ∀ i p, e i p = (en R q (g i) (B + p.val) : EReal))
    (hf : ∀ p k, f p k = (R.f (B + p.val) k : EReal)) (i : Fin n) :
    PartAt R q B 2048 (g i) (halfMax hit e i) (halfSum hit e i) (halfAcc hit e f i) := by
  choose μ hμ using halfMax_real (hit := hit) fun i p => ⟨_, he i p⟩
  have hw : ∀ p, halfExp hit e i p = (term R q (g i) (μ i) (B + p.val) : EReal) := fun p => by
    unfold halfExp term Scalar.select
    by_cases h : hit i p = 1
    · rw [if_pos h, if_pos ((hh i p).1 h), Finset.sum_eq_single i, if_pos h, he, hμ, ← EReal.coe_sub, Ideal.exp_coe]
      · intro x _ hx
        refine if_neg fun hc => hx (hg (Fin.ext ?_))
        rw [← (hh x p).1 hc, (hh i p).1 h]
      · exact fun hc => absurd (Finset.mem_univ _) hc
    · rw [if_neg h, if_neg fun hc => h ((hh i p).2 hc), EReal.coe_zero]
  refine ⟨μ i, hμ i, ?_, fun k => ?_⟩
  · rw [halfSum, Finset.sum_range fun p => term R q (g i) (μ i) (B + p), coe_sum]
    exact Finset.sum_congr rfl fun p _ => hw p
  · rw [halfAcc, Finset.sum_range fun p => term R q (g i) (μ i) (B + p) * R.f (B + p) k, coe_sum]
    exact Finset.sum_congr rfl fun p _ => by rw [hw p, hf, ← EReal.coe_mul]

/-- The kernel's energy: the product with the query and that with the query's rounding error, which is zero of reals. -/
theorem energy (Q : Fin 512 → EReal) (f : Fin 512 → EReal) (b : Fin 64) (p : ℕ) (hq : ∀ k, Q k = (q b k : EReal))
    (hf : ∀ k, f k = (R.f p k : EReal)) : (∑ k, Q k * f k) + ∑ k, (Q k - Q k) * f k = (en R q b p : EReal) := by
  have z : ∀ k ∈ Finset.univ, (Q k - Q k) * f k = 0 := fun k _ => by
    rw [hq, ← EReal.coe_sub, sub_self, EReal.coe_zero, zero_mul]
  rw [Finset.sum_eq_zero z, add_zero, en, coe_sum]
  exact Finset.sum_congr rfl fun k _ => by rw [hq, hf, ← EReal.coe_mul]

end Cert.Math

end
-- ==== Proof.Ideal.Halves.lean ====
/-
  The words the body adds for a point's rows, read at the extended reals: the two halves' maxima, sums and weighted
  features, for the window of sixteen segments and for all sixty-four.
-/
module

public import proofs.«01_k».proof.Proof.Ideal.Step
public import proofs.«01_k».proof.Proof.Math.Half
public import Idealize.ShloMosaic.Lib.Pointwise

@[expose] public section

set_option maxRecDepth 16384

noncomputable section

namespace Cert.KernelIdeal.Gen

open Idealize.ShloMosaic Idealize.SL.Sem
open Cert.Math (halfMax halfExp halfSum halfAcc)

/-- A row of the block's first half. -/
def lo (p : Fin 2048) : Fin 4096 := ⟨p.val, by omega⟩

/-- A row of the block's second half. -/
def hi (p : Fin 2048) : Fin 4096 := ⟨2048 + p.val, by omega⟩

/-- A row of a half is of the segment `w + i`. -/
def hitOf (seg : IVec S1x4096 32) (w : BitVec 32) (pos : Fin 2048 → Fin 4096) {n : ℕ} (i : Fin n) (p : Fin 2048) : BitVec 1 :=
  IntOp.cmpi .eq (seg (ix2 0 (pos p))) (IntOp.addi (BitVec.ofNat 32 i.val) w)

/-- The energy of a row of a half with the query `Q i`. -/
def enOf (feat : Vec Ideal S4096x512 .f32) {n : ℕ} (Q : Fin n → Fin 512 → EReal) (pos : Fin 2048 → Fin 4096) (i : Fin n) (p : Fin 2048) : EReal :=
  ∑ x, Q i x * feat (ix2 (pos p) x) + ∑ x, (Q i x - Q i x) * feat (ix2 (pos p) x)

/-- The features of a half. -/
def ftOf (feat : Vec Ideal S4096x512 .f32) (pos : Fin 2048 → Fin 4096) (p : Fin 2048) (k : Fin 512) : EReal := feat (ix2 (pos p) k)

/-- The queries' entries. -/
abbrev rowsQ {n : ℕ} (q : Vec Ideal ⟨2, ![n, 512]⟩ .f32) (i : Fin n) (k : Fin 512) : EReal := q (ix2 i k)

section Window
variable (seg : IVec S1x4096 32) (feat : Vec Ideal S4096x512 .f32) (w : BitVec 32) (q : Vec Ideal S16x512 .f32)

/-- The first half's maxima. -/
theorem max16_lo (i : Fin 16) : k0_pay15 seg feat w q (ix2 i 0) = halfMax (hitOf seg w lo) (enOf feat (rowsQ q) lo) i := by
  pointwise [k0_pay15, k0_pay14, k0_pay12, k0_pay13, k0_pay11, k0_pay10]
  rfl

/-- The first half's exponentials. -/
theorem exp16_lo (i : Fin 16) (p : Fin 2048) :
    k0_pay16 seg feat w q (ix2 i p) = halfExp (hitOf seg w lo) (enOf feat (rowsQ q) lo) i p := by
  pointwise [k0_pay16, k0_pay14, k0_pay12, k0_pay13, k0_pay11, k0_pay10]
  simp only [max16_lo]
  rfl

/-- The first half's sums. -/
theorem sum16_lo (i : Fin 16) : k0_pay17 seg feat w q (ix2 i 0) = halfSum (hitOf seg w lo) (enOf feat (rowsQ q) lo) i := by
  pointwise [k0_pay17]
  simp only [exp16_lo]
  rfl

/-- The first half's weighted features. -/
theorem acc16_lo (i : Fin 16) (k : Fin 512) :
    k0_pay18 seg feat w q (ix2 i k) = halfAcc (hitOf seg w lo) (enOf feat (rowsQ q) lo) (ftOf feat lo) i k := by
  pointwise [k0_pay18, k0_pay13]
  simp only [exp16_lo]
  rfl

/-- The second half's maxima. -/
theorem max16_hi (i : Fin 16) : k0_pay24 (k0_pay19 seg w) (k0_pay21 feat q) (k0_pay22 feat q) (ix2 i 0)
    = halfMax (hitOf seg w hi) (enOf feat (rowsQ q) hi) i := by
  pointwise [k0_pay24, k0_pay23, k0_pay19, k0_pay20, k0_pay21, k0_pay22, k0_pay11, k0_pay10]
  rfl

/-- The second half's exponentials. -/
theorem exp16_hi (i : Fin 16) (p : Fin 2048) : k0_pay25 (k0_pay19 seg w) (k0_pay21 feat q) (k0_pay22 feat q) (ix2 i p)
    = halfExp (hitOf seg w hi) (enOf feat (rowsQ q) hi) i p := by
  pointwise [k0_pay25]
  simp only [max16_hi]
  pointwise [k0_pay23, k0_pay19, k0_pay20, k0_pay21, k0_pay22, k0_pay11, k0_pay10]
  rfl

/-- The second half's weighted features. -/
theorem acc16_hi (i : Fin 16) (k : Fin 512) :
    k0_pay26 (k0_pay19 seg w) (k0_pay20 feat) (k0_pay21 feat q) (k0_pay22 feat q) (ix2 i k)
      = halfAcc (hitOf seg w hi) (enOf feat (rowsQ q) hi) (ftOf feat hi) i k := by
  pointwise [k0_pay26, k0_pay20]
  simp only [exp16_hi]
  rfl

end Window

section All
variable (seg : IVec S1x4096 32) (feat : Vec Ideal S4096x512 .f32) (q : Vec Ideal S64x512 .f32)

/-- The first half's maxima, of all segments. -/
theorem max64_lo (i : Fin 64) : k0_pay38 seg feat q (ix2 i 0) = halfMax (hitOf seg 0#32 lo) (enOf feat (rowsQ q) lo) i := by
  pointwise [k0_pay38, k0_pay37, k0_pay36, k0_pay35, k0_pay34, k0_pay33]
  rfl

/-- The first half's exponentials, of all segments. -/
theorem exp64_lo (i : Fin 64) (p : Fin 2048) :
    k0_pay39 seg feat q (ix2 i p) = halfExp (hitOf seg 0#32 lo) (enOf feat (rowsQ q) lo) i p := by
  pointwise [k0_pay39, k0_pay37, k0_pay36, k0_pay35, k0_pay34, k0_pay33]
  simp only [max64_lo]
  rfl

/-- The first half's sums, of all segments. -/
theorem sum64_lo (i : Fin 64) : k0_pay40 seg feat q (ix2 i 0) = halfSum (hitOf seg 0#32 lo) (enOf feat (rowsQ q) lo) i := by
  pointwise [k0_pay40]
  simp only [exp64_lo]
  rfl

/-- The first half's weighted features, of all segments. -/
theorem acc64_lo (i : Fin 64) (k : Fin 512) :
    k0_pay41 seg feat q (ix2 i k) = halfAcc (hitOf seg 0#32 lo) (enOf feat (rowsQ q) lo) (ftOf feat lo) i k := by
  pointwise [k0_pay41, k0_pay36]
  simp only [exp64_lo]
  rfl

/-- The second half's maxima, of all segments. -/
theorem max64_hi (i : Fin 64) : k0_pay46 (k0_pay34 q) (k0_pay42 seg) (k0_pay43 feat) (k0_pay44 feat q) (ix2 i 0)
    = halfMax (hitOf seg 0#32 hi) (enOf feat (rowsQ q) hi) i := by
  pointwise [k0_pay46, k0_pay45, k0_pay44, k0_pay43, k0_pay42, k0_pay34, k0_pay33]
  rfl

/-- The second half's exponentials, of all segments. -/
theorem exp64_hi (i : Fin 64) (p : Fin 2048) : k0_pay47 (k0_pay34 q) (k0_pay42 seg) (k0_pay43 feat) (k0_pay44 feat q) (ix2 i p)
    = halfExp (hitOf seg 0#32 hi) (enOf feat (rowsQ q) hi) i p := by
  pointwise [k0_pay47]
  simp only [max64_hi]
  pointwise [k0_pay45, k0_pay44, k0_pay43, k0_pay42, k0_pay34, k0_pay33]
  rfl

/-- The second half's weighted features, of all segments. -/
theorem acc64_hi (i : Fin 64) (k : Fin 512) : k0_pay48 (k0_pay34 q) (k0_pay42 seg) (k0_pay43 feat) (k0_pay44 feat q) (ix2 i k)
    = halfAcc (hitOf seg 0#32 hi) (enOf feat (rowsQ q) hi) (ftOf feat hi) i k := by
  pointwise [k0_pay48]
  simp only [exp64_hi]
  pointwise [k0_pay43]
  rfl

end All

section Joined
variable (r : Rows Ideal) {n : ℕ} (Q : Fin n → Fin 512 → EReal) (w : BitVec 32) (i : Fin n)

/-- The maximum after the block. -/
def newM (m : EReal) : EReal :=
  max (max m (halfMax (hitOf r.seg w lo) (enOf r.feat Q lo) i)) (halfMax (hitOf r.seg w hi) (enOf r.feat Q hi) i)

/-- A sum after the block, of the sums before and in the two halves: each is scaled to the new maximum. -/
def newSum (m x x₀ x₁ : EReal) : EReal :=
  x * Ideal.exp (m - newM r Q w i m) + x₀ * Ideal.exp (halfMax (hitOf r.seg w lo) (enOf r.feat Q lo) i - newM r Q w i m)
    + x₁ * Ideal.exp (halfMax (hitOf r.seg w hi) (enOf r.feat Q hi) i - newM r Q w i m)

/-- The sum after the block. -/
def newL (m l : EReal) : EReal :=
  newSum r Q w i m l (halfSum (hitOf r.seg w lo) (enOf r.feat Q lo) i) (halfSum (hitOf r.seg w hi) (enOf r.feat Q hi) i)

/-- The weighted features after the block. -/
def newA (m : EReal) (a : Fin 512 → EReal) (k : Fin 512) : EReal :=
  newSum r Q w i m (a k) (halfAcc (hitOf r.seg w lo) (enOf r.feat Q lo) (ftOf r.feat lo) i k)
    (halfAcc (hitOf r.seg w hi) (enOf r.feat Q hi) (ftOf r.feat hi) i k)

end Joined

section Fast
variable (r : Rows Ideal) (q : Vec Ideal S16x512 .f32) (p : Part Ideal S16x1 S16x512)

/-- The window's maxima after the block. -/
theorem fast_m (i : Fin 16) : (fastPart r q p).m (ix2 i 0) = newM r (rowsQ q) (windowAt r.first) i (p.m (ix2 i 0)) := by
  unfold fastPart
  pointwise [k0_pay31, k0_pay27]
  simp only [max16_lo, max16_hi]
  rfl

/-- The window's sums after the block. -/
theorem fast_l (i : Fin 16) :
    (fastPart r q p).l (ix2 i 0) = newL r (rowsQ q) (windowAt r.first) i (p.m (ix2 i 0)) (p.l (ix2 i 0)) := by
  unfold fastPart
  pointwise [k0_pay32, k0_pay28, k0_pay29, k0_pay30, k0_pay27]
  simp only [max16_lo, max16_hi, sum16_lo, exp16_hi]
  rfl

/-- The window's weighted features after the block. -/
theorem fast_acc (i : Fin 16) (k : Fin 512) : (fastPart r q p).acc (ix2 i k)
    = newA r (rowsQ q) (windowAt r.first) i (p.m (ix2 i 0)) (fun k => p.acc (ix2 i k)) k := by
  unfold fastPart
  pointwise [k0_pay1, k0_pay28, k0_pay29, k0_pay30, k0_pay27]
  simp only [max16_lo, max16_hi, acc16_lo, acc16_hi]
  rfl

end Fast

section Slow
variable (r : Rows Ideal) (q : Vec Ideal S64x512 .f32) (p : Part Ideal S64x1 S64x512)

/-- All the segments' maxima after the block. -/
theorem slow_m (i : Fin 64) : (slowPart r q p).m (ix2 i 0) = newM r (rowsQ q) 0#32 i (p.m (ix2 i 0)) := by
  unfold slowPart
  pointwise [k0_pay53, k0_pay49]
  simp only [max64_lo, max64_hi]
  rfl

/-- All the segments' sums after the block. -/
theorem slow_l (i : Fin 64) : (slowPart r q p).l (ix2 i 0) = newL r (rowsQ q) 0#32 i (p.m (ix2 i 0)) (p.l (ix2 i 0)) := by
  unfold slowPart
  pointwise [k0_pay54, k0_pay50, k0_pay51, k0_pay52, k0_pay49]
  simp only [max64_lo, max64_hi, sum64_lo, exp64_hi]
  rfl

/-- All the segments' weighted features after the block. -/
theorem slow_acc (i : Fin 64) (k : Fin 512) : (slowPart r q p).acc (ix2 i k)
    = newA r (rowsQ q) 0#32 i (p.m (ix2 i 0)) (fun k => p.acc (ix2 i k)) k := by
  unfold slowPart
  pointwise [k0_pay2, k0_pay50, k0_pay51, k0_pay52, k0_pay49]
  simp only [max64_lo, max64_hi, acc64_lo, acc64_hi]
  rfl

end Slow

end Cert.KernelIdeal.Gen

end
-- ==== Proof.Ideal.Block.lean ====
/-
  The sums after a block. If the state's sums are those of the first `B` rows, then after the block's step they are those of
  the first `B + 4096`, whether the block is taken by a window of sixteen segments or by all sixty-four: a segment outside
  the window has no row in the block.
-/
module

public import proofs.«01_k».proof.Proof.Ideal.Halves
public import proofs.«01_k».proof.Proof.Ideal.Words

@[expose] public section

set_option maxRecDepth 16384

noncomputable section

namespace Cert.KernelIdeal.Gen

open Idealize.ShloMosaic Idealize.SL.Sem
open Cert.Math (PartAt half energy)

/-- A window of sixteen rows, read. -/
theorem window_ix2 {c : ℕ} {α : Type} (x : (⟨2, ![64, c]⟩ : Shape).Idx → α) {off : Fin 2 → ℕ} {ws : ℕ} (ho : off = ![ws, 0])
    (inb) (i : Fin 16) (k : Fin c) (b : Fin 64) (hb : b.val = ws + i.val) :
    VecWindow.window (s := ⟨2, ![64, c]⟩) x off (⟨2, ![16, c]⟩ : Shape).size inb (ix2 i k) = x (ix2 b k) := by
  subst ho
  refine congrArg x (funext fun a => Fin.ext ?_)
  match a with
  | ⟨0, _⟩ => show ws + 1 * i.val = b.val; omega
  | ⟨1, _⟩ => show 0 + 1 * k.val = k.val; omega

/-- A window of sixteen rows written, read inside. -/
theorem put_in {c : ℕ} {α : Type} (x : (⟨2, ![64, c]⟩ : Shape).Idx → α) {off : Fin 2 → ℕ} {ws : ℕ} (ho : off = ![ws, 0])
    (w : (⟨2, ![16, c]⟩ : Shape).Idx → α) (i : Fin 16) (k : Fin c) (b : Fin 64) (hb : b.val = ws + i.val) :
    VecWindow.put (s := ⟨2, ![64, c]⟩) x off (⟨2, ![16, c]⟩ : Shape).size w (ix2 b k) = w (ix2 i k) := by
  subst ho
  have h : ∀ a, (![ws, 0] : Fin 2 → ℕ) a ≤ ((ix2 b k : (⟨2, ![64, c]⟩ : Shape).Idx) a).val
      ∧ ((ix2 b k : (⟨2, ![64, c]⟩ : Shape).Idx) a).val < (![ws, 0] : Fin 2 → ℕ) a + (⟨2, ![16, c]⟩ : Shape).size a := fun a => by
    match a with
    | ⟨0, _⟩ => show ws ≤ b.val ∧ b.val < ws + 16; omega
    | ⟨1, _⟩ => show 0 ≤ k.val ∧ k.val < 0 + c; omega
  unfold VecWindow.put
  rw [dif_pos h]
  refine congrArg w (funext fun a => Fin.ext ?_)
  match a with
  | ⟨0, _⟩ => show b.val - ws = i.val; omega
  | ⟨1, _⟩ => show k.val - 0 = k.val; omega

/-- A window of sixteen rows written, read outside. -/
theorem put_out {c : ℕ} {α : Type} (x : (⟨2, ![64, c]⟩ : Shape).Idx → α) {off : Fin 2 → ℕ} {ws : ℕ} (ho : off = ![ws, 0])
    (w : (⟨2, ![16, c]⟩ : Shape).Idx → α) (k : Fin c) (b : Fin 64) (hb : b.val < ws ∨ ws + 16 ≤ b.val) :
    VecWindow.put (s := ⟨2, ![64, c]⟩) x off (⟨2, ![16, c]⟩ : Shape).size w (ix2 b k) = x (ix2 b k) := by
  subst ho
  unfold VecWindow.put
  refine dif_neg fun h => ?_
  have h0 : ws ≤ b.val ∧ b.val < ws + 16 := h 0
  omega

/-- The window's first segment, as a word. -/
theorem windowAt_eq : ∀ v : Fin 64, (windowAt (BitVec.ofNat 32 v.val)).toNat = winStart v.val := by decide +kernel

/-- The block takes all segments exactly if it doesn't fit the window. -/
theorem wide_iff : ∀ v w : Fin 64, v ≤ w →
    (wide (BitVec.ofNat 32 v.val) (BitVec.ofNat 32 w.val) = 1#1 ↔ ¬ w.val < winStart v.val + 16) := by
  decide +kernel

/-- A block's rows are the rows from `B` on, and its two words bound their segments. -/
structure RowsOk (D : Math.Rows) (B : ℕ) (r : Rows Ideal) : Prop where
  seg : ∀ p : Fin 4096, (r.seg (ix2 0 p)).toNat = D.seg (B + p.val)
  feat : ∀ (p : Fin 4096) (k : Fin 512), r.feat (ix2 p k) = (D.f (B + p.val) k : EReal)
  ends : ∃ v w : Fin 64, v ≤ w ∧ r.first = BitVec.ofNat 32 v.val ∧ r.last = BitVec.ofNat 32 w.val
    ∧ ∀ p, B ≤ p → p < B + 4096 → D.seg p < 64 → v.val ≤ D.seg p ∧ D.seg p ≤ w.val

/-- The state's sums are those of the first `n` rows, with the queries `q`. -/
def Sums (D : Math.Rows) (q : Fin 64 → Fin 512 → ℝ) (n : ℕ) (s : St Ideal) : Prop :=
  ∀ b : Fin 64, PartAt D q 0 n b (s.m (ix2 b 0)) (s.l (ix2 b 0)) (fun k => s.acc (ix2 b k))

/-- A row is of the segment `w + i` exactly if its number is. -/
theorem hit_iff (seg : IVec S1x4096 32) (w : BitVec 32) (pos : Fin 2048 → Fin 4096) {n : ℕ} (i : Fin n) (p : Fin 2048)
    (h : w.toNat + i.val < 64) : hitOf seg w pos i p = 1 ↔ (seg (ix2 0 (pos p))).toNat = w.toNat + i.val := by
  have e : (IntOp.addi (BitVec.ofNat 32 i.val) w).toNat = w.toNat + i.val := by
    show (BitVec.ofNat 32 i.val + w).toNat = _
    rw [BitVec.toNat_add, BitVec.toNat_ofNat]; omega
  unfold hitOf
  rw [← e]
  show BitVec.ofBool (_ == _) = 1#1 ↔ _
  rw [StableHlo.Predicate.ofBool_eq_one_iff, beq_iff_eq]
  exact BitVec.toNat_inj.symm

variable {D : Math.Rows} {q : Fin 64 → Fin 512 → ℝ} {B : ℕ} {r : Rows Ideal}

/-- A segment's sums after a block, from those before. -/
theorem block (hr : RowsOk D B r) {n : ℕ} (Q : Fin n → Fin 512 → EReal) (w : BitVec 32) (g : Fin n → Fin 64)
    (hg : ∀ i, (g i).val = w.toNat + i.val) (hQ : ∀ i k, Q i k = (q (g i) k : EReal)) (i : Fin n) {m l : EReal} {a : Fin 512 → EReal}
    (h : PartAt D q 0 B (g i) m l a) :
    PartAt D q 0 (B + 2048 + 2048) (g i) (newM r Q w i m) (newL r Q w i m l) (newA r Q w i m a) := by
  have gi : Function.Injective g := fun x y hxy => Fin.ext (by have := hg x; have := hg y; rw [hxy] at *; omega)
  have hh : ∀ (pos : Fin 2048 → Fin 4096) (j : Fin n) (p : Fin 2048),
      hitOf r.seg w pos j p = 1 ↔ D.seg (B + (pos p).val) = (g j).val := fun pos j p => by
    rw [hit_iff _ _ _ _ _ (by have := hg j; omega), hr.seg, hg]
  have he : ∀ (pos : Fin 2048 → Fin 4096) (j : Fin n) (p : Fin 2048),
      enOf r.feat Q pos j p = (Math.en D q (g j) (B + (pos p).val) : EReal) := fun pos j p =>
    energy (Q j) (fun x => r.feat (ix2 (pos p) x)) (g j) _ (hQ j) fun k => hr.feat (pos p) k
  have e0 : ∀ p : Fin 2048, 0 + B + p.val = B + (lo p).val := fun p => by simp [lo]
  have e1 : ∀ p : Fin 2048, 0 + (B + 2048) + p.val = B + (hi p).val := fun p => by simp [hi]; omega
  exact h.join
    (half g gi (0 + B) (fun j p => by rw [e0]; exact hh lo j p) (fun j p => by rw [e0]; exact he lo j p)
      (fun p k => by rw [e0]; exact hr.feat (lo p) k) i)
    (half g gi (0 + (B + 2048)) (fun j p => by rw [e1]; exact hh hi j p) (fun j p => by rw [e1]; exact he hi j p)
      (fun p k => by rw [e1]; exact hr.feat (hi p) k) i)

variable {s : St Ideal} (hr : RowsOk D B r) (hq : ∀ b k, s.h (ix2 b k) = (q b k : EReal)) (hs : Sums D q B s)
include hr hq hs

/-- All segments' sums after a block. -/
theorem slow_sums : Sums D q (B + 2048 + 2048) (slowSt r s) := fun b => by
  have h := block hr (rowsQ s.h) 0#32 id (fun i => (Nat.zero_add _).symm) hq b (hs b)
  refine Eq.mp ?_ h
  unfold slowSt
  simp only [slow_m, slow_l, slow_acc]
  rfl

/-- A window's segments' sums after a block whose rows lie in it; the other segments' are unchanged. -/
theorem fast_sums (hw : k0_chk1 r.first r.last) (h2 : k0_cond2 r.first r.last = 1#1) : Sums D q (B + 2048 + 2048) (fastSt r hw h2 s) := by
  obtain ⟨v, w, hvw, hv, hl, hb⟩ := hr.ends
  have hlast : w.val < winStart v.val + 16 := by rw [hv, hl] at h2; exact (cond2_iff v w hvw).1 h2
  have o1 : k0_off1 r.first = ![winStart v.val, 0] := by rw [hv]; exact off1_eq v
  have o2 : k0_off2 r.first = ![winStart v.val, 0] := by rw [hv]; exact off2_eq v
  have ow : (windowAt r.first).toNat = winStart v.val := by rw [hv]; exact windowAt_eq v
  have hws := winStart_le v.val
  have hwv : winStart v.val ≤ v.val := by unfold winStart; omega
  intro b
  by_cases hin : winStart v.val ≤ b.val ∧ b.val < winStart v.val + 16
  · obtain ⟨i, hi⟩ : ∃ i : Fin 16, b.val = winStart v.val + i.val := ⟨⟨b.val - winStart v.val, by omega⟩, by show _ = _ + (_ - _); omega⟩
    have hg : ∀ i : Fin 16, winStart v.val + i.val < 64 := fun i => by omega
    have hbi : (⟨winStart v.val + i.val, hg i⟩ : Fin 64) = b := Fin.ext hi.symm
    have h := block hr (rowsQ (VecWindow.window (s := S64x512) s.h (k0_off1 r.first) S16x512.size (k0_off1_inb r.first r.last hw h2)))
      (windowAt r.first) (fun i => ⟨winStart v.val + i.val, hg i⟩) (fun i => by rw [ow])
      (fun i k => (window_ix2 s.h o1 _ i k ⟨_, hg i⟩ rfl).trans (hq _ _)) i (by rw [hbi]; exact hs b)
    rw [hbi] at h
    unfold fastSt
    refine Eq.mp ?_ h
    dsimp only
    rw [put_in s.m o2 _ i 0 b hi, put_in s.l o2 _ i 0 b hi]
    simp only [put_in s.acc o1 _ i _ b hi, fast_m, fast_l, fast_acc, window_ix2 s.m o2 _ i 0 b hi, window_ix2 s.l o2 _ i 0 b hi,
      window_ix2 s.acc o1 _ i _ b hi]
  · have ho : b.val < winStart v.val ∨ winStart v.val + 16 ≤ b.val := by omega
    have h := (hs b).skip (n' := 4096) fun p h1 h2 hc => by
      rw [Nat.zero_add] at hc
      have := hb p h1 h2 (by omega)
      omega
    unfold fastSt
    dsimp only
    rw [put_out s.m o2 _ 0 b ho, put_out s.l o2 _ 0 b ho]
    simp only [put_out s.acc o1 _ _ b ho]
    exact h

/-- The sums after a block, either way. -/
theorem block_sums (hw : k0_chk1 r.first r.last) : Sums D q (B + 4096) (wideSt r (narrowSt r hw s)) := by
  obtain ⟨v, w, hvw, hv, hl, hb⟩ := hr.ends
  have hwi : wide r.first r.last = 1#1 ↔ ¬ w.val < winStart v.val + 16 := by rw [hv, hl]; exact wide_iff v w hvw
  have hci : k0_cond2 r.first r.last = 1#1 ↔ w.val < winStart v.val + 16 := by rw [hv, hl]; exact cond2_iff v w hvw
  unfold wideSt narrowSt
  by_cases h2 : k0_cond2 r.first r.last = 1#1
  · rw [if_neg fun h => hwi.1 h (hci.1 h2), dif_pos h2]
    exact fast_sums hr hq hs hw h2
  · rw [if_pos (hwi.2 fun h => h2 (hci.2 h)), dif_neg h2]
    exact slow_sums hr hq hs

omit hr hq hs in
/-- A block leaves the hidden state and the cell. -/
theorem block_keeps (hw : k0_chk1 r.first r.last) (s : St Ideal) :
    (wideSt r (narrowSt r hw s)).h = s.h ∧ (wideSt r (narrowSt r hw s)).c = s.c := by
  unfold wideSt narrowSt
  split <;> split <;> exact ⟨rfl, rfl⟩

end Cert.KernelIdeal.Gen

end
-- ==== Proof.Math.Cell.lean ====
/-
  The recurrence, at the entries: the gates, the cell, the hidden state and the readout of one iteration, from those of the
  iteration before. A hidden state is a real whatever the gates are, for a logistic value lies between zero and one and
  a hyperbolic tangent between minus one and one.
-/
module

public import proofs.«01_k».proof.Proof.Math.Online

@[expose] public section

noncomputable section

namespace Cert.Math

open Idealize.ShloMosaic

/-- The weights and the biases. -/
structure Params where
  wi : Fin 2048 → Fin 1024 → EReal
  wh : Fin 2048 → Fin 512 → EReal
  bi : Fin 2048 → EReal
  bh : Fin 2048 → EReal

/-- What an iteration hands to the next: the hidden state, the cell and the readout. -/
structure Carry where
  h : Fin 64 → Fin 512 → EReal
  c : Fin 64 → Fin 512 → EReal
  rd : Fin 64 → Fin 512 → EReal

/-- Before the first iteration all are zero. -/
def Carry.zero : Carry := ⟨fun _ _ => 0, fun _ _ => 0, fun _ _ => 0⟩

variable (P : Params) (z : Carry)

/-- A gate before its activation. -/
def gate (b : Fin 64) (j : Fin 2048) : EReal :=
  ∑ x : Fin 512, z.h b x * P.wi j ⟨x.val, by omega⟩ + ∑ x : Fin 512, z.rd b x * P.wi j ⟨512 + x.val, by omega⟩
    + ∑ x, z.h b x * P.wh j x + P.bi j + P.bh j

/-- The new cell. -/
def cellC (b : Fin 64) (k : Fin 512) : EReal :=
  Ideal.logistic (gate P z b ⟨512 + k.val, by omega⟩) * z.c b k
    + Ideal.logistic (gate P z b ⟨k.val, by omega⟩) * Ideal.tanh (gate P z b ⟨1024 + k.val, by omega⟩)

/-- The new hidden state. -/
def cellH (b : Fin 64) (k : Fin 512) : EReal :=
  Ideal.logistic (gate P z b ⟨1536 + k.val, by omega⟩) * Ideal.tanh (cellC P z b k)

/-- A logistic value is a real. -/
theorem logistic_real (x : EReal) : ∃ r : ℝ, Ideal.logistic x = r := by
  induction x with
  | bot => exact ⟨0, by
      show Ideal.div 1 (1 + Ideal.exp (-⊥)) = _
      rw [EReal.neg_bot, Ideal.exp_top, EReal.add_top_of_ne_bot (by decide), Ideal.div, if_neg (by decide)]
      simp⟩
  | top => exact ⟨1, by
      show Ideal.div 1 (1 + Ideal.exp (-⊤)) = _
      rw [EReal.neg_top, Ideal.exp_bot, add_zero, Ideal.div, if_neg (by norm_num)]
      simp⟩
  | coe r => exact ⟨1 / (1 + Real.exp (-r)), by
      show Ideal.div 1 (1 + Ideal.exp (-(r : EReal))) = _
      rw [← EReal.coe_neg, Ideal.exp_coe, ← EReal.coe_one, ← EReal.coe_add, div_coe (by positivity)]⟩

/-- A hyperbolic tangent is a real. -/
theorem tanh_real (x : EReal) : ∃ r : ℝ, Ideal.tanh x = r := by
  induction x with
  | bot => exact ⟨-1, by rw [Ideal.tanh_bot]; rfl⟩
  | top => exact ⟨1, by rw [Ideal.tanh_top]; rfl⟩
  | coe r => exact ⟨Real.tanh r, rfl⟩

/-- The new hidden state, which is the new query, as a real. -/
def query (b : Fin 64) (k : Fin 512) : ℝ := (cellH P z b k).toReal

theorem cellH_eq (b : Fin 64) (k : Fin 512) : cellH P z b k = (query P z b k : EReal) := by
  obtain ⟨r, hr⟩ := logistic_real (gate P z b ⟨1536 + k.val, by omega⟩)
  obtain ⟨s, hs⟩ := tanh_real (cellC P z b k)
  have e : cellH P z b k = ((r * s : ℝ) : EReal) := by rw [cellH, hr, hs, EReal.coe_mul]
  rw [query, e, EReal.toReal_coe]

/-- One iteration over the fifty thousand rows. -/
def Carry.next (R : Rows) (z : Carry) : Carry := ⟨cellH P z, cellC P z, fun b k => (readout R (query P z) 50000 b k : EReal)⟩

/-- What the last iteration returns: the hidden state beside the readout. -/
def Carry.out (b : Fin 64) (j : Fin 1024) : EReal :=
  if h : j.val < 512 then z.h b ⟨j.val, h⟩ else z.rd b ⟨j.val - 512, by omega⟩

end Cert.Math

end
-- ==== Proof.Ideal.Reset.lean ====
/-
  The start of an iteration, read at the extended reals: the state's hidden state and cell become those of the recurrence's
  next step, and its sums are those of no rows. At the end the result is the hidden state beside the readout.
-/
module

public import proofs.«01_k».proof.Proof.Ideal.Block
public import proofs.«01_k».proof.Proof.Math.Cell

@[expose] public section

set_option maxRecDepth 16384

noncomputable section

namespace Cert.KernelIdeal.Gen

open Idealize.ShloMosaic Idealize.SL.Sem
open Cert.Math (Params Carry gate cellC cellH query)

/-- The body's weights are the recurrence's, its bias their sum. -/
structure WeightsOk (P : Params) (W : Weights Ideal) : Prop where
  ih : ∀ j k, W.ih (ix2 j k) = P.wi j k
  hh : ∀ j k, W.hh (ix2 j k) = P.wh j k
  b : ∀ j, W.b (ix2 0 j) = P.bi j + P.bh j

/-- A state at the end of an iteration: the hidden state, the cell, and sums whose quotient is the readout. -/
structure Ends (z : Carry) (s : St Ideal) : Prop where
  h : ∀ b k, s.h (ix2 b k) = z.h b k
  c : ∀ b k, s.c (ix2 b k) = z.c b k
  rd : ∀ b k, (if 0 < s.l (ix2 b 0) then Ideal.div (s.acc (ix2 b k)) (s.l (ix2 b 0)) else 0) = z.rd b k

/-- What the start of an iteration reads: zeros at the first, and the end of the iteration before at the others. -/
def Starts (z : Carry) (n : ℕ) (s : St Ideal) : Prop := (n = 0 ∧ z = Carry.zero) ∨ (n ≠ 0 ∧ Ends z s)

variable {P : Params} {z : Carry} {i : grid0.Coords} {W : Weights Ideal} {s : St Ideal}

/-- The first iteration's test. -/
theorem first_iff (i : grid0.Coords) : Scalar.cmpi .eq (BitVec.ofNat 32 (i 0).val) 0#32 = if (i 0).val = 0 then 1#1 else 0#1 := by
  have h : ∀ n : Fin 6, Scalar.cmpi .eq (BitVec.ofNat 32 n.val) 0#32 = if n.val = 0 then 1#1 else 0#1 := by decide
  exact h (i 0)

/-- The gates before their activations. -/
theorem reset_gates (hW : WeightsOk P W) (hz : Starts z (i 0).val s) (b : Fin 64) (j : Fin 2048) :
    k0_pay5 (BitVec.ofNat 32 (i 0).val) s.h s.l s.acc W.ih W.hh W.b (ix2 b j) = gate P z b j := by
  pointwise [k0_pay5]
  simp only [first_iff, hW.ih, hW.hh, hW.b]
  rcases hz with ⟨h0, rfl⟩ | ⟨h0, hz⟩
  · simp [h0, gate, Carry.zero, Scalar.select, Scalar.xori, IntOp.xori, IntOp.andi, add_assoc]
  · simp only [h0, if_false, gate, ← hz.h, ← hz.rd]
    by_cases hl : 0 < s.l (ix2 b 0)
    · simp [hl, Scalar.select, Scalar.xori, IntOp.xori, IntOp.andi, add_assoc]
    · simp [hl, Scalar.select, Scalar.xori, IntOp.xori, IntOp.andi, add_assoc]

/-- The cell after the start. -/
theorem reset_c (hW : WeightsOk P W) (hz : Starts z (i 0).val s) (b : Fin 64) (k : Fin 512) :
    (resetSt i W s).c (ix2 b k) = cellC P z b k := by
  unfold resetSt
  pointwise [k0_pay57, k0_pay55, k0_pay4, k0_pay6, k0_pay7, k0_pay8]
  rw [reset_gates hW hz, reset_gates hW hz, reset_gates hW hz, first_iff, cellC]
  rcases hz with ⟨h0, rfl⟩ | ⟨h0, hz⟩
  · simp [h0, Carry.zero, Scalar.select]
  · simp [h0, hz.c, Scalar.select]

/-- The hidden state after the start. -/
theorem reset_h (hW : WeightsOk P W) (hz : Starts z (i 0).val s) (b : Fin 64) (k : Fin 512) :
    (resetSt i W s).h (ix2 b k) = cellH P z b k := by
  have hc := reset_c hW hz b k
  unfold resetSt at hc ⊢
  pointwise [k0_pay57] at hc
  pointwise [k0_pay56, k0_pay9]
  rw [reset_gates hW hz, hc, cellH]

/-- The sums after the start are those of no rows. -/
theorem reset_sums (D : Math.Rows) (q : Fin 64 → Fin 512 → ℝ) : Sums D q 0 (resetSt i W s) := fun b => by
  obtain ⟨M, hM⟩ := Math.ofBits_mask
  have h := Math.PartAt.zero (R := D) (q := q) 0 b M
  unfold resetSt
  pointwise [k0_pay58, k0_pay59, k0_pay60]
  rw [hM]
  exact h

/-- What the last point writes. -/
theorem out_apply (hz : Ends z s) (b : Fin 64) (j : Fin 1024) : outSt s (ix2 b j) = z.out b j := by
  unfold outSt
  pointwise [k0_pay3]
  unfold Carry.out
  split
  · exact hz.h _ _
  · exact hz.rd _ _

/-- After the last block of an iteration the state is at the iteration's end. -/
theorem ends_of_sums (D : Math.Rows) (hh : ∀ b k, s.h (ix2 b k) = cellH P z b k) (hc : ∀ b k, s.c (ix2 b k) = cellC P z b k)
    (hs : Sums D (query P z) 50000 s) : Ends (z.next P D) s := ⟨hh, hc, fun b k => (hs b).readout k⟩

end Cert.KernelIdeal.Gen

end
-- ==== Proof.Ideal.Value.lean ====
/-
  The kernel's result at the extended reals. After the points of an iteration the carried state is at the end of that
  iteration of the recurrence, so the result is the recurrence's hidden state and readout after the sixth.
-/
module

public import proofs.«01_k».proof.Proof.Ideal.Reset
public import proofs.«01_k».proof.Proof.Ideal.Run
public import proofs.«01_k».proof.Proof.Ideal.Words

@[expose] public section

set_option maxRecDepth 16384

noncomputable section

namespace Cert.Math

/-- The recurrence after `n` iterations. -/
def iter (P : Params) (D : Rows) (n : ℕ) : Carry := (Carry.next P D)^[n] Carry.zero

theorem iter_succ (P : Params) (D : Rows) (n : ℕ) : iter P D (n + 1) = (iter P D n).next P D :=
  Function.iterate_succ_apply' _ _ _

/-- A run of rows at the end, none of the segment, may be left out. -/
theorem PartAt.drop {R : Rows} {q : Fin 64 → Fin 512 → ℝ} {B n n' : ℕ} {b : Fin 64} {m l : EReal} {a : Fin 512 → EReal}
    (h : PartAt R q B (n + n') b m l a) (hs : ∀ p, n ≤ p → p < n + n' → R.seg (B + p) ≠ b.val) : PartAt R q B n b m l a := by
  obtain ⟨M, hm, hl, ha⟩ := h
  have z : ∀ p ∈ Finset.range n', term R q b M (B + (n + p)) = 0 := fun p hp =>
    if_neg (hs (n + p) (by omega) (by have := Finset.mem_range.1 hp; omega))
  have zk : ∀ k, ∀ p ∈ Finset.range n', term R q b M (B + (n + p)) * R.f (B + (n + p)) k = 0 := fun k p hp => by
    rw [z p hp, zero_mul]
  refine ⟨M, hm, ?_, fun k => ?_⟩
  · rw [hl, Finset.sum_range_add, Finset.sum_eq_zero z, add_zero]
  · rw [ha k, Finset.sum_range_add, Finset.sum_eq_zero (zk k), add_zero]

end Cert.Math

namespace Cert.KernelIdeal.Gen

open Idealize.ShloMosaic Idealize.ShloMosaic.TcCoe Idealize.SL.Sem
open Cert.Math (Params Carry gate cellC cellH query iter)

/-- The rows of the arguments: past the fifty thousandth, the number 64 and zeros. -/
def dataOf (feat : Vec Ideal S50000x512 .f32) (ids : IVec S50000 32) : Math.Rows where
  seg p := if h : p < 50000 then (idAt ids p h).toNat else 64
  f p k := if h : p < 50000 then (feat (ix2 ⟨p, h⟩ k)).toReal else 0

/-- The weights and the biases of the arguments. -/
def paramsOf (ih : Vec Ideal S2048x1024 .f32) (hh : Vec Ideal S2048x512 .f32) (bi bh : Vec Ideal S2048 .f32) : Params where
  wi j x := ih (ix2 j x)
  wh j x := hh (ix2 j x)
  bi j := bi (ix1 j)
  bh j := bh (ix1 j)

variable (m : (ℓ : Loc nD τ sig) → Buf (Elt Ideal) ℓ) (c : Dev nD)

/-- The rows in memory. -/
abbrev rowsIn : Math.Rows := dataOf (m ((c : Thread nD τ).loc main_arg0)) (m ((c : Thread nD τ).loc main_arg1))

/-- The weights and the biases in memory. -/
abbrev paramsIn : Params := paramsOf (m ((c : Thread nD τ).loc main_arg2)) (m ((c : Thread nD τ).loc main_arg3))
  (m ((c : Thread nD τ).loc main_arg4)) (m ((c : Thread nD τ).loc main_arg5))

/-- Every point reads the weights and the biases in memory. -/
theorem weights_ok (t : Fin cfg0.N) : WeightsOk (paramsIn m c) (weightsAt m c t) := by
  refine ⟨fun j k => ?_, fun j k => ?_, fun j => ?_⟩
  · show (iblk m c 3 t : Vec Ideal S2048x1024 .f32) (ix2 j k) = _
    rw [iblk_3]; rfl
  · show (iblk m c 4 t : Vec Ideal S2048x512 .f32) (ix2 j k) = _
    rw [iblk_4]; rfl
  · show (iblk m c 5 t : Vec Ideal S1x2048 .f32) (ix2 0 j) = _
    rw [ix2_eq_valueIdx, bias_apply]
    simp only [← ix1_eq_valueIdx]
    rfl

/-- A position compared with the number of rows. -/
theorem inside (b : Fin 13) (p : Fin 4096) :
    IntOp.cmpi .slt (IntOp.addi (Scalar.muli (BitVec.ofNat 32 b.val) 4096#32) (BitVec.ofNat 32 p.val)) 50000#32
      = if 4096 * b.val + p.val < 50000 then 1#1 else 0#1 := by
  have hb := b.isLt
  have hp := p.isLt
  have e : IntOp.addi (Scalar.muli (BitVec.ofNat 32 b.val) 4096#32) (BitVec.ofNat 32 p.val)
      = BitVec.ofNat 32 (4096 * b.val + p.val) := by
    apply BitVec.eq_of_toNat_eq
    show (BitVec.ofNat 32 b.val * 4096#32 + BitVec.ofNat 32 p.val).toNat = _
    simp only [BitVec.toNat_add, BitVec.toNat_mul, BitVec.toNat_ofNat]
    omega
  have h := StableHlo.Predicate.slt_iff_toNat (a := BitVec.ofNat 32 (4096 * b.val + p.val)) (b := 50000#32)
    (by rw [BitVec.toNat_ofNat]; omega) (by decide)
  rw [BitVec.toNat_ofNat, Nat.mod_eq_of_lt (by omega)] at h
  rw [e]
  split
  · next hl => exact h.2 hl
  · next hl =>
    have := h.not.2 hl
    generalize IntOp.cmpi CmpIPredicate.slt (BitVec.ofNat 32 (4096 * b.val + p.val)) 50000#32 = x at this ⊢
    revert x; decide

variable (hs : Sorted (m ((c : Thread nD τ).loc main_arg1)))
  (hf : ∀ (p : Fin 50000) (k : Fin 512), ∃ r : ℝ, (m ((c : Thread nD τ).loc main_arg0) : Vec Ideal S50000x512 .f32) (ix2 p k) = (r : EReal))

include hs hf in
/-- Every point reads its block of the rows in memory. -/
theorem rows_ok (t : Fin cfg0.N) (d : Vec Ideal S4096x512 .f32) : RowsOk (rowsIn m c) (4096 * (blockOf t).val) (rowsAt m c t d) := by
  have hb := (blockOf t).isLt
  refine ⟨fun p => ?_, fun p k => ?_, ?_⟩
  · have e : (rowsAt m c t d).seg (ix2 0 p) = (iblk m c 1 t : IVec S1x1x4096 32) (ix3 0 0 p) := by
      unfold rowsAt rowsOf
      pointwise [k0_pay61]
    rw [e, ix3_eq_valueIdx]
    show _ = if h : 4096 * (blockOf t).val + p.val < 50000 then _ else 64
    split
    · next h => rw [seg_apply m c t p h]
    · next h => rw [seg_pad m c t p (not_lt.1 h)]; rfl
  · have e : (rowsAt m c t d).feat (ix2 p k) = Scalar.select (IntOp.cmpi .slt (IntOp.addi
        (Scalar.muli (BitVec.ofNat 32 (blockOf t).val) 4096#32) (BitVec.ofNat 32 p.val)) 50000#32) (featAt m c t d (ix2 p k)) (0 : EReal) := by
      unfold rowsAt rowsOf
      pointwise [k0_pay62]
      rfl
    rw [e, inside]
    show _ = (((if h : 4096 * (blockOf t).val + p.val < 50000 then _ else 0 : ℝ)) : EReal)
    split
    · next h =>
      obtain ⟨r, hr⟩ := hf ⟨_, h⟩ k
      show featAt m c t d (ix2 p k) = _
      rw [ix2_eq_valueIdx, featAt_apply m c t d p k h, ← ix2_eq_valueIdx, hr, EReal.toReal_coe]
    · rfl
  · have h1 : (rowsAt m c t d).first = _ := first_apply m c t
    have h2 : (rowsAt m c t d).last = _ := last_apply m c t
    refine ⟨⟨_, hs.lt (4096 * (blockOf t).val) (by omega)⟩, ⟨_, hs.lt (min (4096 * (blockOf t).val + 4096) 50000 - 1) (by omega)⟩,
      hs.mono (by omega) (by omega), by rw [h1]; simp, by rw [h2]; simp, fun p h0 hp hl => ?_⟩
    have h50 : p < 50000 := by
      by_contra hn
      have e : (rowsIn m c).seg p = 64 := dif_neg hn
      omega
    have e : (rowsIn m c).seg p = (idAt (m ((c : Thread nD τ).loc main_arg1)) p h50).toNat := dif_pos h50
    rw [e]
    exact ⟨hs.mono h0 h50, hs.mono (by omega) (by omega)⟩

/-- Point `t` is block `t % 13` of iteration `t / 13`. -/
theorem coords_val : ∀ t : Fin cfg0.N, ((grid0.coords t) 0).val = t.val / 13 ∧ ((grid0.coords t) 1).val = t.val % 13 := by decide

/-- The points that start an iteration. -/
theorem starts_iff : ∀ t : Fin cfg0.N, starts (grid0.coords t) = 1#1 ↔ t.val % 13 = 0 := by decide

/-- The state after `j` blocks of the iteration that follows `z`. -/
structure Mid (P : Params) (D : Math.Rows) (z : Carry) (j : ℕ) (s : St Ideal) : Prop where
  h : ∀ b k, s.h (ix2 b k) = cellH P z b k
  c : ∀ b k, s.c (ix2 b k) = cellC P z b k
  sums : Sums D (query P z) (4096 * j) s

/-- After thirteen blocks the iteration is at its end. -/
theorem Mid.ends {z : Carry} {s : St Ideal} (h : Mid (paramsIn m c) (rowsIn m c) z 13 s) :
    Ends (z.next (paramsIn m c) (rowsIn m c)) s :=
  ends_of_sums _ h.h h.c fun b => Math.PartAt.drop (n := 50000) (n' := 3248) (h.sums b) fun p h0 _ => by
    have e : (rowsIn m c).seg (0 + p) = 64 := dif_neg (by omega)
    have := b.isLt
    omega

/-- The state before point `t`: anything before the first, and after that what the point before left. -/
def Inv (n : ℕ) (s : St Ideal) : Prop :=
  n = 0 ∨ (n ≠ 0 ∧ Mid (paramsIn m c) (rowsIn m c) (iter (paramsIn m c) (rowsIn m c) ((n - 1) / 13)) ((n - 1) % 13 + 1) s)

include hs hf in
/-- Every point takes the state before it to the state after it. -/
theorem inv_step (t : Fin cfg0.N) (d : Vec Ideal S4096x512 .f32) (s : St Ideal) (hw : k0_chk1 (rowsAt m c t d).first (rowsAt m c t d).last)
    (h : Inv m c t.val s) : Inv m c (t.val + 1) (stepSt (grid0.coords t) (weightsAt m c t) (rowsAt m c t d) hw s) := by
  obtain ⟨e0, e1⟩ := coords_val t
  have hB : (blockOf t).val = t.val % 13 := e1
  have hr := rows_ok m c hs hf t d
  refine .inr ⟨by omega, ?_⟩
  rw [Nat.add_sub_cancel]
  have key : Mid (paramsIn m c) (rowsIn m c) (iter (paramsIn m c) (rowsIn m c) (t.val / 13)) (t.val % 13)
      (startSt (grid0.coords t) (weightsAt m c t) s) := by
    unfold startSt
    by_cases h0 : t.val % 13 = 0
    · rw [if_pos ((starts_iff t).2 h0)]
      have hz : Starts (iter (paramsIn m c) (rowsIn m c) (t.val / 13)) ((grid0.coords t) 0).val s := by
        rw [e0]
        rcases h with h | ⟨hn, h⟩
        · exact .inl ⟨by omega, by rw [h]; rfl⟩
        · refine .inr ⟨by omega, ?_⟩
          have a : (t.val - 1) % 13 + 1 = 13 := by omega
          have b : t.val / 13 = (t.val - 1) / 13 + 1 := by omega
          rw [a] at h
          rw [b, Math.iter_succ]
          exact Mid.ends m c h
      refine ⟨reset_h (weights_ok m c t) hz, reset_c (weights_ok m c t) hz, ?_⟩
      rw [h0]
      exact reset_sums _ _
    · rw [if_neg (mt (starts_iff t).1 h0)]
      rcases h with h | ⟨hn, h⟩
      · exact absurd (by omega) h0
      · have a : (t.val - 1) % 13 + 1 = t.val % 13 := by omega
        have b : (t.val - 1) / 13 = t.val / 13 := by omega
        rw [a, b] at h
        exact h
  obtain ⟨kh, kc⟩ := block_keeps hw (startSt (grid0.coords t) (weightsAt m c t) s)
  refine ⟨fun b k => ?_, fun b k => ?_, ?_⟩
  · show (wideSt _ (narrowSt _ hw _)).h _ = _
    rw [kh]; exact key.h b k
  · show (wideSt _ (narrowSt _ hw _)).c _ = _
    rw [kc]; exact key.c b k
  · rw [hB] at hr
    exact block_sums hr (fun b k => (key.h b k).trans (Math.cellH_eq _ _ b k)) key.sums hw

/-- After the last point the state is at the end of the sixth iteration. -/
theorem inv_last (s : St Ideal) (h : Inv m c 78 s) (b : Fin 64) (j : Fin 1024) :
    outSt s (ix2 b j) = (iter (paramsIn m c) (rowsIn m c) 6).out b j := by
  rcases h with h | ⟨-, h⟩
  · exact absurd h (by decide)
  · rw [Math.iter_succ]
    exact out_apply (Mid.ends m c h) b j

end Cert.KernelIdeal.Gen

end
-- ==== Proof.Reference.Rows.lean ====
module

public import Idealize.ShloMosaic.Lib.Routing.Ops
public import Idealize.ShloMosaic.Lib.Routing.OpsPair
public import Idealize.ShloMosaic.Lib.ValueIdxCore
public import Idealize.ShloMosaic.Lib.IdealHost

/-!
The sum of rows by segment, at any widths: each update row is added to the row of the table that its
index word names.
-/

@[expose] public section

namespace Cert.Rows

open Idealize.ShloMosaic Idealize.ShloMosaic.ValueIdx Idealize.ShloMosaic.Routing

/-- Update `(p, y)` of a scatter of whole rows lands at `(b, k)` exactly when its row's index word is
`b` and its column is `k`. -/
theorem lands {R C N : ℕ} (d : ScatterDims (shape2 R C) (shape2 N 1) (shape2 N C))
    (hu : d.updateWindowDims = [1]) (hi : d.insertedWindowDims = [0])
    (hs : d.scatterDimsToOperandDims = [0]) (hv : d.indexVectorDim = 1)
    (idx : IVec (shape2 N 1) 32) (p : Fin N) (y : Fin C) (b : Fin R) (k : Fin C) :
    d.resultIdx? (ix2 p y) idx = some (ix2 b k) ↔ (idx (ix2 p 0)).toInt = b.val ∧ y = k := by
  obtain ⟨u, i, s, v, wf⟩ := d
  dsimp only at hu hi hs hv
  subst hu hi hs hv
  rw [resultIdx?_ix2]
  have h0 : ScatterDims.start ⟨[1], [0], [0], 1, wf⟩ (ix2 p y) idx 0 = (idx (ix2 p 0)).toInt := by
    unfold ScatterDims.start
    rw [dif_pos (List.mem_singleton.2 rfl)]
    refine congrArg (fun j => (idx j).toInt) (funext fun a => ?_)
    match a with
    | ⟨0, _⟩ => rfl
    | ⟨1, _⟩ => exact Subsingleton.elim (α := Fin 1) _ _
  have h1 : ScatterDims.start ⟨[1], [0], [0], 1, wf⟩ (ix2 p y) idx 1 = 0 := by
    unfold ScatterDims.start
    exact dif_neg (show ¬ (1 : Fin 2) ∈ ([0] : List (Fin 2)) by decide)
  have w0 : ScatterDims.window ⟨[1], [0], [0], 1, wf⟩ (ix2 p y) 0 = 0 := rfl
  have w1 : ScatterDims.window ⟨[1], [0], [0], 1, wf⟩ (ix2 p y) 1 = y.val := rfl
  rw [h0, h1, w0, w1, Fin.ext_iff]
  omega

/-- Rows added by segment into a table: entry `(b, k)` gains entry `k` of each row whose index word is
`b`. -/
theorem scatter_rows {R C N : ℕ} (d : ScatterDims (shape2 R C) (shape2 N 1) (shape2 N C))
    (hu : d.updateWindowDims = [1]) (hi : d.insertedWindowDims = [0])
    (hs : d.scatterDimsToOperandDims = [0]) (hv : d.indexVectorDim = 1)
    (x : (shape2 R C).Idx → EReal) (idx : IVec (shape2 N 1) 32)
    (upd : (shape2 N C).Idx → EReal) (seg : Fin N → ℕ)
    (hseg : ∀ p, (idx (ix2 p 0)).toInt = (seg p : ℤ)) (b : Fin R) (k : Fin C) :
    Ideal.hostScatterAdd d x idx upd (ix2 b k)
      = x (ix2 b k) + ∑ p : Fin N, if seg p = b.val then upd (ix2 p k) else 0 := by
  unfold Ideal.hostScatterAdd
  refine congrArg (x (ix2 b k) + ·) ?_
  rw [Finset.sum_filter, sum_idx2]
  refine Finset.sum_congr rfl fun p _ => ?_
  rw [Finset.sum_eq_single k]
  · refine if_congr ?_ rfl rfl
    rw [lands d hu hi hs hv, hseg]
    simp
  · intro y _ hy
    exact if_neg fun h => hy ((lands d hu hi hs hv idx p y b k).1 h).2
  · intro h
    exact (h (Finset.mem_univ k)).elim

end Cert.Rows
-- ==== Proof.Reference.Step.lean ====
/-
  One iteration of the reference, read at the extended reals: from contents that hold the features, the segments, the weights
  and what the iteration before handed over, the hidden state, the cell and the readout are those of the recurrence's next step.
-/
module

public import proofs.«01_k».proof.Proof.Gen.ReferenceIdeal.Run
public import proofs.«01_k».proof.Proof.Reference.Rows
public import proofs.«01_k».proof.Proof.Math.Cell
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Math (Params Carry gate cellC cellH query en term readout)

/-- Contents that hold the arguments and what the iteration before handed over. -/
structure Reads (P : Params) (D : Math.Rows) (z : Carry) (V : Valuation τ sig (Elt Ideal)) : Prop where
  wi : ∀ (j : Fin 2048) (x : Fin 1024), V main_v9_0 (ix2 j x) = P.wi j x
  wh : ∀ (j : Fin 2048) (x : Fin 512), V main_v9_1 (ix2 j x) = P.wh j x
  bi : ∀ j : Fin 2048, V main_v9_2 (ix1 j) = P.bi j
  bh : ∀ j : Fin 2048, V main_v9_3 (ix1 j) = P.bh j
  seg : ∀ p : Fin 50000, V main_v9_4 (ix1 p) = BitVec.ofNat 32 (D.seg p)
  lt : ∀ p : Fin 50000, D.seg p < 64
  feat : ∀ (p : Fin 50000) (k : Fin 512), V main_v9_5 (ix2 p k) = ((D.f p k : ℝ) : EReal)
  mask : ∀ (b : Fin 64) (p : Fin 50000), V main_v9_6 (ix2 b p) = if D.seg p = b.val then 1#1 else 0#1
  h : ∀ (b : Fin 64) (k : Fin 512), V main_v9_9 (ix2 b k) = z.h b k
  c : ∀ (b : Fin 64) (k : Fin 512), V main_v9_10 (ix2 b k) = z.c b k
  out : ∀ (b : Fin 64) (j : Fin 1024), V main_v9_11 (ix2 b j) = z.out b j

/-- The index words of the gathers: the segments, as a column, a negative one wrapped. -/
abbrev wrapped (ids : IVec S50000 32) : IVec S50000x1 32 :=
  broadcastInDim S50000x1 ![0] bcast_S50000_S50000x1_0
    (select (cmpi .slt ids (broadcastInDim S50000 ![] bcast_S_S50000 (constantI S_ 32 0#32)))
      (addi ids (broadcastInDim S50000 ![] bcast_S_S50000 (constantI S_ 32 64#32))) ids)

/-- A segment below 64 is not wrapped. -/
theorem wrapped_apply (ids : IVec S50000 32) (p : Fin 50000) (n : ℕ) (hn : n < 64) (h : ids (ix1 p) = BitVec.ofNat 32 n) :
    wrapped ids (ValueIdx.ix2 p 0) = BitVec.ofNat 32 n := by
  rw [← ix2_eq_valueIdx]
  pointwise
  rw [h, Routing.wrap_of_lt _ _ (by rw [BitVec.toNat_ofNat]; omega)]

/-- A row of a table of width 512, taken at each segment. -/
theorem gather_wide (x : S64x512.Idx → EReal) (ids : IVec S50000 32) (p : Fin 50000) (k : Fin 512) (b : Fin 64)
    (h : ids (ix1 p) = BitVec.ofNat 32 b.val) :
    Host.gather gather_S64x512_S50000x1_S50000x512_1_0_n_n_0_1_1512 x (wrapped ids) (ix2 p k) = x (ix2 b k) := by
  rw [ix2_eq_valueIdx, ix2_eq_valueIdx]
  exact Routing.gather_row gather_S64x512_S50000x1_S50000x512_1_0_n_n_0_1_1512 rfl rfl rfl rfl rfl x _ p k b
    (wrapped_apply ids p b.val b.isLt h) (by norm_num)

/-- An entry of a column, taken at each segment. -/
theorem gather_thin (x : S64x1.Idx → EReal) (ids : IVec S50000 32) (p : Fin 50000) (b : Fin 64)
    (h : ids (ix1 p) = BitVec.ofNat 32 b.val) :
    Host.gather gather_S64x1_S50000x1_S50000x1_1_0_n_n_0_1_11 x (wrapped ids) (ix2 p 0) = x (ix2 b 0) := by
  rw [ix2_eq_valueIdx, ix2_eq_valueIdx]
  exact Routing.gather_row gather_S64x1_S50000x1_S50000x1_1_0_n_n_0_1_11 rfl rfl rfl rfl rfl x _ p 0 b
    (wrapped_apply ids p b.val b.isLt h) (by norm_num)

/-- The segments as a column, read signed. -/
theorem column_toInt (ids : IVec S50000 32) (seg : Fin 50000 → ℕ) (hs : ∀ p, seg p < 64)
    (h : ∀ p, ids (ix1 p) = BitVec.ofNat 32 (seg p)) (p : Fin 50000) :
    (broadcastInDim S50000x1 ![0] bcast_S50000_S50000x1_0 ids (ValueIdx.ix2 p 0)).toInt = (seg p : ℤ) := by
  have := hs p
  rw [← ix2_eq_valueIdx]
  pointwise
  rw [h, BitVec.toInt_eq_toNat_of_lt (by rw [BitVec.toNat_ofNat]; omega), BitVec.toNat_ofNat,
    Nat.mod_eq_of_lt (by omega)]

/-- Rows of width 512 summed by segment, from zeros. -/
theorem scatter_wide (ids : IVec S50000 32) (seg : Fin 50000 → ℕ) (hs : ∀ p, seg p < 64)
    (h : ∀ p, ids (ix1 p) = BitVec.ofNat 32 (seg p)) (upd : S50000x512.Idx → EReal) (b : Fin 64) (k : Fin 512) :
    Host.scatterAdd (F := Ideal) scatter_S64x512_S50000x1_S50000x512_1_0_0_1
        (broadcastInDim S64x512 ![] bcast_S_S64x512 (constant S_ .f32 0x00000000#32))
        (broadcastInDim S50000x1 ![0] bcast_S50000_S50000x1_0 ids) upd (ix2 b k)
      = ∑ p : Fin 50000, if seg p = b.val then upd (ix2 p k) else 0 := by
  rw [ix2_eq_valueIdx]
  refine (Rows.scatter_rows scatter_S64x512_S50000x1_S50000x512_1_0_0_1 rfl rfl rfl rfl _ _ upd seg
    (column_toInt ids seg hs h) b k).trans ?_
  rw [← ix2_eq_valueIdx]
  pointwise
  simp only [← ix2_eq_valueIdx]

/-- Entries of a column summed by segment, from zeros. -/
theorem scatter_thin (ids : IVec S50000 32) (seg : Fin 50000 → ℕ) (hs : ∀ p, seg p < 64)
    (h : ∀ p, ids (ix1 p) = BitVec.ofNat 32 (seg p)) (upd : S50000x1.Idx → EReal) (b : Fin 64) :
    Host.scatterAdd (F := Ideal) scatter_S64x1_S50000x1_S50000x1_1_0_0_1
        (broadcastInDim S64x1 ![] bcast_S_S64x1 (constant S_ .f32 0x00000000#32))
        (broadcastInDim S50000x1 ![0] bcast_S50000_S50000x1_0 ids) upd (ix2 b 0)
      = ∑ p : Fin 50000, if seg p = b.val then upd (ix2 p 0) else 0 := by
  rw [ix2_eq_valueIdx]
  refine (Rows.scatter_rows scatter_S64x1_S50000x1_S50000x1_1_0_0_1 rfl rfl rfl rfl _ _ upd seg
    (column_toInt ids seg hs h) b 0).trans ?_
  rw [← ix2_eq_valueIdx]
  pointwise
  simp only [← ix2_eq_valueIdx]

end Cert.ReferenceIdeal.Value

end
-- ==== Proof.Reference.Trip.lean ====
/-
  One iteration of the reference: its gates, its cell, its hidden state, and the readout from the weights of the softmax over
  each segment.
-/
module

public import proofs.«01_k».proof.Proof.Reference.Step

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Math (Params Carry gate cellC cellH query en term readout)

variable {P : Params} {D : Math.Rows} {z : Carry} {V : Valuation τ sig (Elt Ideal)}

/-- A sum over 1024 columns is the sum over the first half plus that over the second. -/
theorem sum_halves (g : Fin 1024 → EReal) :
    ∑ x, g x = ∑ x : Fin 512, g ⟨x.val, by omega⟩ + ∑ x : Fin 512, g ⟨512 + x.val, by omega⟩ :=
  Fin.sum_univ_add (a := 512) (b := 512) g

/-- The gates before their activations. -/
theorem gates_apply (R : Reads P D z V) (b : Fin 64) (j : Fin 2048) : res_main_while0b_v21 V (ix2 b j) = gate P z b j := by
  unfold res_main_while0b_v21
  clean_types
  pointwise
  simp only [R.out, R.wi, R.wh, R.bi, R.bh, R.h]
  rw [sum_halves, gate]
  have e1 : ∀ x : Fin 512, z.out b ⟨x.val, by omega⟩ = z.h b x := fun x => dif_pos x.isLt
  have e2 : ∀ x : Fin 512, z.out b ⟨512 + x.val, by omega⟩ = z.rd b x := fun x => by
    unfold Carry.out
    rw [dif_neg (by simp)]
    exact congrArg (z.rd b) (Fin.ext (Nat.add_sub_cancel_left 512 x.val))
  simp only [e1, e2]

/-- The cell. -/
theorem cell_apply (R : Reads P D z V) (b : Fin 64) (k : Fin 512) : res_main_while0b_v47 V (ix2 b k) = cellC P z b k := by
  unfold res_main_while0b_v47
  clean_types
  pointwise
  rw [gates_apply R, gates_apply R, gates_apply R, R.c]
  rfl

/-- The hidden state, which is a real. -/
theorem hidden_apply (R : Reads P D z V) (b : Fin 64) (k : Fin 512) :
    res_main_while0b_v49 V (ix2 b k) = cellH P z b k := by
  unfold res_main_while0b_v49
  clean_types
  pointwise
  rw [gates_apply R, cell_apply R]
  rfl

/-- A row's energy: its product with the query of its segment. -/
theorem energy_apply (R : Reads P D z V) (p : Fin 50000) :
    res_main_while0b_v59 V (ix2 p 0) = (en D (query P z) ⟨D.seg p, R.lt p⟩ p : EReal) := by
  unfold res_main_while0b_v59
  clean_types
  pointwise
  have e : ∀ k : Fin 512, Host.gather gather_S64x512_S50000x1_S50000x512_1_0_n_n_0_1_1512 (res_main_while0b_v49 V)
      (wrapped (V main_v9_4)) (ix2 p k) = (query P z ⟨D.seg p, R.lt p⟩ k : EReal) := fun k => by
    rw [gather_wide _ _ p k ⟨D.seg p, R.lt p⟩ (R.seg p), hidden_apply R, Math.cellH_eq]
  simp only [e, R.feat, en]
  rw [Math.coe_sum]
  exact Finset.sum_congr rfl fun k _ => by rw [EReal.coe_mul, mul_comm]

/-- A row's weight: the exponential of its energy above a bound of its segment. -/
theorem weight_apply (R : Reads P D z V) : ∃ E : Fin 64 → ℝ, ∀ p : Fin 50000,
    res_main_while0b_v73 V (ix2 p 0)
      = (Real.exp (en D (query P z) ⟨D.seg p, R.lt p⟩ p - E ⟨D.seg p, R.lt p⟩) : EReal) := by
  have key : ∀ b : Fin 64, ∃ E : ℝ, ∀ p : Fin 50000, D.seg p = b.val →
      res_main_while0b_v73 V (ix2 p 0) = (Real.exp (en D (query P z) ⟨D.seg p, R.lt p⟩ p - E) : EReal) := by
    intro b
    by_cases hb : ∃ p : Fin 50000, D.seg p = b.val
    · obtain ⟨p₀, hp₀⟩ := hb
      have hfold : ∃ E : ℝ, (Finset.univ : Finset (Fin 50000)).fold max ⊥
          (fun p : Fin 50000 => if D.seg p = b.val then (en D (query P z) ⟨D.seg p, R.lt p⟩ p : EReal) else ⊥) = E := by
        refine Math.fold_max_real _ _ (fun p _ => ?_) ⟨p₀, Finset.mem_univ _, ?_⟩
        · split
          · exact EReal.coe_ne_top _
          · exact bot_ne_top
        · rw [if_pos hp₀]
          exact EReal.coe_ne_bot _
      obtain ⟨E, hE⟩ := hfold
      refine ⟨E, fun p hp => ?_⟩
      unfold res_main_while0b_v73
      clean_types
      pointwise
      rw [gather_thin _ _ p b (by rw [R.seg, hp])]
      pointwise
      have e : ∀ x : Fin 50000, Scalar.select (V main_v9_6 (ix2 b x)) (res_main_while0b_v59 V (ix2 x 0))
          (id (constant (F := Ideal) S_ .f32 4286578688#32) ix0)
            = if D.seg x = b.val then (en D (query P z) ⟨D.seg x, R.lt x⟩ x : EReal) else ⊥ := fun x => by
        rw [R.mask, energy_apply R]
        split
        · rfl
        · exact Math.ofBits_neg_inf
      rw [Math.ofBits_neg_inf]
      simp only [e]
      rw [hE, energy_apply R, ← EReal.coe_sub, Ideal.exp_coe]
    · exact ⟨0, fun p hp => (hb ⟨p, hp⟩).elim⟩
  choose E hE using key
  exact ⟨E, fun p => hE ⟨D.seg p, R.lt p⟩ p rfl⟩

/-- The left half of two tables side by side. -/
theorem beside_left (x y : S64x512.Idx → EReal) (b : Fin 64) (k : Fin 512) :
    concatenate S64x1024 1 [⟨S64x512, x⟩, ⟨S64x512, y⟩] concatenates_S64x512_S64x512_S64x1024_d1
      (ix2 b (⟨k.val, by omega⟩ : Fin 1024)) = x (ix2 b k) := by
  pointwise

/-- The right half of two tables side by side. -/
theorem beside_right (x y : S64x512.Idx → EReal) (b : Fin 64) (k : Fin 512) :
    concatenate S64x1024 1 [⟨S64x512, x⟩, ⟨S64x512, y⟩] concatenates_S64x512_S64x512_S64x1024_d1
      (ix2 b (⟨512 + k.val, by omega⟩ : Fin 1024)) = y (ix2 b k) := by
  pointwise

/-- The sum over the rows of a segment of reals. -/
theorem sum_rows (seg : ℕ → ℕ) (b : Fin 64) (g : ℕ → ℝ) (x : Fin 50000 → EReal)
    (hx : ∀ p : Fin 50000, seg p = b.val → x p = (g p : EReal)) :
    (∑ p : Fin 50000, if seg p = b.val then x p else 0)
      = ((∑ p ∈ Finset.range 50000, if seg p = b.val then g p else 0 : ℝ) : EReal) := by
  rw [Math.coe_sum, Finset.sum_range]
  refine Finset.sum_congr rfl fun p _ => ?_
  by_cases h : seg p = b.val
  · rw [if_pos h, if_pos h, hx p h]
  · rw [if_neg h, if_neg h, EReal.coe_zero]

/-- The readout. -/
theorem readout_apply (R : Reads P D z V) (b : Fin 64) (k : Fin 512) :
    step_main_v9_11 V (ix2 b (⟨512 + k.val, by omega⟩ : Fin 1024)) = (readout D (query P z) 50000 b k : EReal) := by
  obtain ⟨E, hE⟩ := weight_apply R
  have hseg : ∀ (p : Fin 50000) (h : D.seg p = b.val), (⟨D.seg p, R.lt p⟩ : Fin 64) = b := fun p h => Fin.ext h
  have hw : ∀ p : Fin 50000, D.seg p = b.val →
      res_main_while0b_v73 V (ix2 p 0) = (Real.exp (en D (query P z) b p - E b) : EReal) := fun p h => by
    rw [hE, hseg p h]
  refine (beside_right _ _ b k).trans ?_
  rw [scatter_wide _ (fun p => D.seg p) R.lt R.seg]
  have hl : Host.scatterAdd (F := Ideal) scatter_S64x1_S50000x1_S50000x1_1_0_0_1
      (broadcastInDim S64x1 ![] bcast_S_S64x1 (constant S_ .f32 0x00000000#32))
      (broadcastInDim S50000x1 ![0] bcast_S50000_S50000x1_0 (V main_v9_4)) (res_main_while0b_v73 V) (ix2 b 0)
        = ((∑ p ∈ Finset.range 50000, term D (query P z) b (E b) p : ℝ) : EReal) := by
    rw [scatter_thin _ (fun p => D.seg p) R.lt R.seg]
    exact sum_rows D.seg b _ _ hw
  rw [← Math.readout_shift 50000 b (E b) k, Finset.sum_div]
  refine (sum_rows D.seg b (fun p => D.f p k * (Real.exp (en D (query P z) b p - E b)
    / ∑ p ∈ Finset.range 50000, term D (query P z) b (E b) p)) _ fun p h => ?_).trans ?_
  · clean_types
    pointwise
    rw [R.feat, hw p h, gather_thin _ _ p b (by rw [R.seg, h]), hl, Math.div_coe, EReal.coe_mul]
    refine Finset.sum_pos' (fun p _ => Math.term_nonneg _ _ _ _ p) ⟨p, Finset.mem_range.2 p.isLt, ?_⟩
    rw [term, if_pos h]
    exact Real.exp_pos _
  · refine congrArg (fun x : ℝ => (x : EReal)) (Finset.sum_congr rfl fun p _ => ?_)
    rw [term]
    split
    · ring
    · simp

/-- What one iteration hands over. -/
theorem reads_step (R : Reads P D z V) : Reads P D (z.next P D) (STEP V) := by
  refine ⟨?_, ?_, ?_, ?_, ?_, R.lt, ?_, ?_, ?_, ?_, ?_⟩
  · intro j x; rw [STEP_main_v9_0]; exact R.wi j x
  · intro j x; rw [STEP_main_v9_1]; exact R.wh j x
  · intro j; rw [STEP_main_v9_2]; exact R.bi j
  · intro j; rw [STEP_main_v9_3]; exact R.bh j
  · intro p; rw [STEP_main_v9_4]; exact R.seg p
  · intro p k; rw [STEP_main_v9_5]; exact R.feat p k
  · intro b p; rw [STEP_main_v9_6]; exact R.mask b p
  · intro b k; rw [STEP_main_v9_9]; exact hidden_apply R b k
  · intro b k; rw [STEP_main_v9_10]; exact cell_apply R b k
  · intro b j
    rw [STEP_main_v9_11, Carry.out]
    split
    · next h => exact (beside_left _ _ b ⟨j.val, h⟩).trans (hidden_apply R b _)
    · next h =>
      have e : j = (⟨512 + (⟨j.val - 512, by omega⟩ : Fin 512).val, by dsimp only; omega⟩ : Fin 1024) :=
        Fin.ext (by dsimp only; omega)
      exact (congrArg (fun j => step_main_v9_11 V (ix2 b j)) e).trans (readout_apply R b _)

end Cert.ReferenceIdeal.Value

end
-- ==== Proof.Reference.Entry.lean ====
/-
  The reference's result at the extended reals: its loop starts from zeros beside the arguments, so after six trips its result
  is the recurrence's hidden state and readout after the sixth iteration.
-/
module

public import proofs.«01_k».proof.Proof.Reference.Trip
public import Idealize.ShloMosaic.Lib.StableHlo.RunRead

@[expose] public section

set_option maxRecDepth 16384

noncomputable section

namespace Cert.ReferenceIdeal.Value

open Idealize.ShloMosaic Idealize.ShloMosaic.TcCoe Idealize.ShloMosaic.StableHlo Idealize.SL.Sem
open Cert.ReferenceIdeal Cert.ReferenceIdeal.Gen
open Cert.Math (Params Carry)

variable (m : (ℓ : Loc nD τ sig) → Buf (Elt Ideal) ℓ) (c : Dev nD)

/-- What the loop starts from. -/
abbrev start : Valuation τ sig (Elt Ideal) := entryContents preI m c

/-- The arguments stand where the loop reads them. -/
theorem start_args :
    start m c main_v9_0 = m ((c : Thread nD τ).loc main_arg2) ∧ start m c main_v9_1 = m ((c : Thread nD τ).loc main_arg3)
    ∧ start m c main_v9_2 = m ((c : Thread nD τ).loc main_arg4) ∧ start m c main_v9_3 = m ((c : Thread nD τ).loc main_arg5)
    ∧ start m c main_v9_4 = m ((c : Thread nD τ).loc main_arg1) ∧ start m c main_v9_5 = m ((c : Thread nD τ).loc main_arg0) := by
  refine ⟨?_, ?_, ?_, ?_, ?_, ?_⟩ <;>
  · simp only [start, entryContents, afterL_cons, afterL_nil]
    after_reads_simp
    rfl

/-- Which row is of which segment, as the loop reads it. -/
theorem start_mask : start m c main_v9_6 = cmpi .eq
    (broadcastInDim S64x50000 ![0, 1] bcast_S1x50000_S64x50000_0_1
      (broadcastInDim S1x50000 ![1] bcast_S50000_S1x50000_1 (m ((c : Thread nD τ).loc main_arg1) : IVec S50000 32)))
    (broadcastInDim S64x50000 ![0, 1] bcast_S64x1_S64x50000_0_1
      (broadcastInDim S64x1 ![0] bcast_S64_S64x1_0 (iotaInDim S64 32 0))) := by
  simp only [start, entryContents, afterL_cons, afterL_nil]
  after_reads_simp
  rfl

/-- The hidden state, the cell and the output before the loop are zeros. -/
theorem start_zeros :
    start m c main_v9_9 = broadcastInDim S64x512 ![] bcast_S_S64x512 (constant (F := Ideal) S_ .f32 0x00000000#32)
    ∧ start m c main_v9_10 = broadcastInDim S64x512 ![] bcast_S_S64x512 (constant (F := Ideal) S_ .f32 0x00000000#32)
    ∧ start m c main_v9_11 = broadcastInDim S64x1024 ![] bcast_S_S64x1024 (constant (F := Ideal) S_ .f32 0x00000000#32) := by
  refine ⟨?_, ?_, ?_⟩ <;>
  · simp only [start, entryContents, afterL_cons, afterL_nil]
    after_reads_simp
    rfl

/-- Memory that holds given weights, biases and rows. -/
structure Holds (P : Params) (D : Math.Rows) : Prop where
  wi : ∀ (j : Fin 2048) (x : Fin 1024), m ((c : Thread nD τ).loc main_arg2) (ix2 j x) = P.wi j x
  wh : ∀ (j : Fin 2048) (x : Fin 512), m ((c : Thread nD τ).loc main_arg3) (ix2 j x) = P.wh j x
  bi : ∀ j : Fin 2048, m ((c : Thread nD τ).loc main_arg4) (ix1 j) = P.bi j
  bh : ∀ j : Fin 2048, m ((c : Thread nD τ).loc main_arg5) (ix1 j) = P.bh j
  seg : ∀ p : Fin 50000, m ((c : Thread nD τ).loc main_arg1) (ix1 p) = BitVec.ofNat 32 (D.seg p)
  lt : ∀ p : Fin 50000, D.seg p < 64
  feat : ∀ (p : Fin 50000) (k : Fin 512), m ((c : Thread nD τ).loc main_arg0) (ix2 p k) = ((D.f p k : ℝ) : EReal)

variable {P : Params} {D : Math.Rows}

/-- The loop starts from the recurrence's start. -/
theorem reads_start (H : Holds m c P D) : Reads P D Carry.zero (start m c) := by
  obtain ⟨a0, a1, a2, a3, a4, a5⟩ := start_args m c
  obtain ⟨z0, z1, z2⟩ := start_zeros m c
  refine ⟨?_, ?_, ?_, ?_, ?_, H.lt, ?_, ?_, ?_, ?_, ?_⟩
  · intro j x; rw [a0]; exact H.wi j x
  · intro j x; rw [a1]; exact H.wh j x
  · intro j; rw [a2]; exact H.bi j
  · intro j; rw [a3]; exact H.bh j
  · intro p; rw [a4]; exact H.seg p
  · intro p k; rw [a5]; exact H.feat p k
  · intro b p
    have hl := H.lt p
    have hb := b.isLt
    rw [start_mask]
    pointwise
    rw [H.seg]
    show BitVec.ofBool (decide (BitVec.ofNat 32 (D.seg p) = BitVec.ofNat 32 b.val)) = _
    have e : BitVec.ofNat 32 (D.seg p) = BitVec.ofNat 32 b.val ↔ D.seg p = b.val := by
      rw [← BitVec.toNat_inj, BitVec.toNat_ofNat, BitVec.toNat_ofNat, Nat.mod_eq_of_lt (by omega), Nat.mod_eq_of_lt (by omega)]
    by_cases h : D.seg p = b.val
    · rw [if_pos h, decide_eq_true (e.2 h)]; rfl
    · rw [if_neg h, decide_eq_false (mt e.1 h)]; rfl
  · intro b k
    rw [z0]
    pointwise
    rfl
  · intro b k
    rw [z1]
    pointwise
    rfl
  · intro b j
    rw [z2]
    pointwise
    unfold Carry.out
    split <;> rfl

/-- After `n` trips the contents are those of the recurrence after `n` iterations. -/
theorem reads_trips (H : Holds m c P D) (n : ℕ) :
    Reads P D ((Carry.next P D)^[n] Carry.zero) (STEP^[n] (start m c)) := by
  induction n with
  | zero => exact reads_start m c H
  | succ n ih =>
    rw [Function.iterate_succ_apply', Function.iterate_succ_apply']
    exact reads_step ih

end Cert.ReferenceIdeal.Value

end
-- ==== Proof.Algebraic.lean ====
/-
  The value claim: over the extended reals, from memories that agree on the arguments, the kernel's result is the reference's.
-/
module

public import proofs.«01_k».proof.Proof.Frames
public import proofs.«01_k».proof.Proof.Finite
public import proofs.«01_k».proof.Proof.Ideal.Value
public import proofs.«01_k».proof.Proof.Reference.Entry

@[expose] public section

set_option maxRecDepth 65536

noncomputable section

namespace Cert.Value

open Idealize.ShloMosaic Idealize.ShloMosaic.TcCoe Idealize.SL.Sem
open Cert.KernelIdeal.Gen (Sorted wordsOk run_inv ArgsKept Inv inv_step inv_last rowsIn paramsIn idAt)

/-- The kernel's frame under the value claim's precondition. -/
theorem quiescent_KernelIdeal : Cert.quiescent_KernelIdeal_pre_finite_features := fun m g hp =>
  Cert.Frames.kernel_frame m g fun c => Cert.Finite.sorted _ _ _ _ _ _ (hp c)

/-- The reference's frame under the value claim's precondition. -/
theorem quiescent_ReferenceIdeal : Cert.quiescent_ReferenceIdeal_pre_finite_features := fun m g _ =>
  (θ_run _ _ _).mono (fun r h => ⟨fun c => (h c).2, sem_eq_zero_of_no_sems (by decide) r.2⟩) (Cert.ReferenceIdeal.Value.run m g)

section
variable (m : (ℓ : Loc Cert.KernelIdeal.nD Cert.KernelIdeal.τ Cert.KernelIdeal.sig) → Buf (Elt Ideal) ℓ)

/-- The common result: the hidden state beside the readout after six iterations. -/
def result (c : Dev Cert.KernelIdeal.nD) : Vec Ideal Cert.KernelIdeal.S64x1024 .f32 := fun i =>
  (Math.iter (paramsIn m c) (rowsIn m c) 6).out (i 0) (i 1)

/-- The kernel's run ends with the common result. -/
theorem kernel_run (g : Dev Cert.KernelIdeal.nD → PrngReg)
    (hs : ∀ c : Dev Cert.KernelIdeal.nD, Sorted (m ((c : Thread Cert.KernelIdeal.nD Cert.KernelIdeal.τ).loc Cert.KernelIdeal.main_arg1)))
    (hf : ∀ (c : Dev Cert.KernelIdeal.nD) (p : Fin 50000) (k : Fin 512), ∃ r : ℝ,
      (m ((c : Thread Cert.KernelIdeal.nD Cert.KernelIdeal.τ).loc Cert.KernelIdeal.main_arg0) : Vec Ideal Cert.KernelIdeal.S50000x512 .f32) (ix2 p k)
        = (r : EReal)) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c : Thread Cert.KernelIdeal.nD Cert.KernelIdeal.τ).loc Cert.KernelIdeal.main_v0) = result m c ∧ ArgsKept m c r.2.mem) :=
  (θ_run _ _ _).mono (fun r h c => by
    obtain ⟨ha, s, hi, hv⟩ := h.1 c
    refine ⟨hv.trans (funext fun i => ?_), ha⟩
    rw [eq_ix2 i]
    exact inv_last m c s hi (i 0) (i 1))
    (run_inv m g (fun c k s => Inv m c k.val s) (wordsOk m hs)
      (fun c t d s h => inv_step m c (hs c) (hf c) t d s (wordsOk m hs c t) h) (fun _ _ => .inl rfl))

/-- Memory that agrees on the arguments holds the same weights, biases and rows. -/
theorem holds (c : Dev Cert.KernelIdeal.nD)
    (m' : (ℓ : Loc Cert.ReferenceIdeal.nD Cert.ReferenceIdeal.τ Cert.ReferenceIdeal.sig) → Buf (Elt Ideal) ℓ)
    (hs : Sorted (m ((c : Thread Cert.KernelIdeal.nD Cert.KernelIdeal.τ).loc Cert.KernelIdeal.main_arg1)))
    (hf : ∀ (p : Fin 50000) (k : Fin 512), ∃ r : ℝ,
      (m ((c : Thread Cert.KernelIdeal.nD Cert.KernelIdeal.τ).loc Cert.KernelIdeal.main_arg0) : Vec Ideal Cert.KernelIdeal.S50000x512 .f32) (ix2 p k)
        = (r : EReal))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.Holds m' c (paramsIn m c) (rowsIn m c) := by
  have hseg : ∀ p : Fin 50000, (rowsIn m c).seg p
      = (idAt (m ((c.tc : Thread Cert.KernelIdeal.nD Cert.KernelIdeal.τ).loc Cert.KernelIdeal.main_arg1)) p.val p.isLt).toNat :=
    fun p => dif_pos p.isLt
  refine ⟨fun j x => ?_, fun j x => ?_, fun j => ?_, fun j => ?_, fun p => ?_, fun p => ?_, fun p k => ?_⟩
  · rw [h2]; rfl
  · rw [h3]; rfl
  · rw [h4]; rfl
  · rw [h5]; rfl
  · rw [h1, hseg, BitVec.ofNat_toNat, BitVec.setWidth_eq]
    exact congrArg _ (ix1_eq_valueIdx p)
  · rw [hseg]; exact hs.lt _ _
  · obtain ⟨r, hr⟩ := hf p k
    have e : (rowsIn m c).f p k = r := by
      refine (dif_pos p.isLt).trans ?_
      rw [show (⟨p.val, p.isLt⟩ : Fin 50000) = p from rfl, hr, EReal.toReal_coe]
    rw [h0, e]
    exact hr
end

/-- The kernel's result is the reference's. -/
theorem algebraic : Cert.algebraic_KernelIdeal_ReferenceIdeal_pre_finite_features := fun m g m' g' hp he =>
  have hs := fun c => Cert.Finite.sorted _ _ _ _ _ _ (hp c)
  have hf := fun c => Cert.Finite.real _ _ _ _ _ _ (hp c)
  ⟨result m, (θ_run _ _ _).mono (fun _ h c => h c) (kernel_run m g hs fun c p k => by
      obtain ⟨r, hr⟩ := hf c p k
      exact ⟨r, (congrArg _ (ix2_eq_valueIdx p k)).trans hr⟩),
    (θ_run _ _ _).mono (fun r h c => by
      refine ⟨(h c).1.trans (funext fun i => ?_), (h c).2⟩
      obtain ⟨h0, h1, h2, h3, h4, h5⟩ := he c
      have H := holds m c m' (hs c) (fun p k => by
        obtain ⟨r, hr⟩ := hf c p k
        exact ⟨r, (congrArg _ (ix2_eq_valueIdx p k)).trans hr⟩) h0 h1 h2 h3 h4 h5
      rw [eq_ix2 i]
      exact (Cert.ReferenceIdeal.Value.reads_trips m' c H 6).out (i 0) (i 1))
      (Cert.ReferenceIdeal.Value.run m' g')⟩

end Cert.Value

end
-- ==== Proof.lean ====
/-
  The proof of `Cert.Claim`: the frames of the kernel, of its reading over the extended reals and of the reference, and the
  equality of the kernel's result with the reference's over the extended reals.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_sorted_segments

@[expose] public section

noncomputable section

namespace Cert.Proof

/-- Everything that is claimed. -/
theorem claim : Cert.Claim :=
  ⟨Cert.Kernel.Gen.facts, Cert.KernelIdeal.Gen.facts, Cert.ReferenceIdeal.Gen.facts, Cert.Pre_sorted_segments.Gen.facts,
    Cert.Finite.facts, Cert.Frames.quiescent_Kernel, Cert.Frames.quiescent_KernelIdeal, Cert.Value.quiescent_KernelIdeal,
    Cert.Frames.quiescent_ReferenceIdeal, Cert.Value.quiescent_ReferenceIdeal, trivial, Cert.Value.algebraic⟩

end Cert.Proof

end
